-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  IdealRules.named_const.Statement Cert.Kernel2Ideal.κ "qscale" .f32 0x3E38AA3B#32 (((Real.log 256)⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v15_0)) (v1 : (c : Dev Cert.Kernel2Ideal.nD) → Buf (Elt Ideal) ((c.tc : Thread Cert.Kernel2Ideal.nD Cert.Kernel2Ideal.τ).loc Cert.Kernel2Ideal.main_v15_1)) (v2 : (c : Dev Cert.Kernel2Ideal.nD) → Buf (Elt Ideal) ((c.tc : Thread Cert.Kernel2Ideal.nD Cert.Kernel2Ideal.τ).loc Cert.Kernel2Ideal.main_v15_2)) (v3 : (c : Dev Cert.Kernel2Ideal.nD) → Buf (Elt Ideal) ((c.tc : Thread Cert.Kernel2Ideal.nD Cert.Kernel2Ideal.τ).loc Cert.Kernel2Ideal.main_v15_3)) (v4 : (c : Dev Cert.Kernel2Ideal.nD) → Buf (Elt Ideal) ((c.tc : Thread Cert.Kernel2Ideal.nD Cert.Kernel2Ideal.τ).loc Cert.Kernel2Ideal.main_v15_4)) (v5 : (c : Dev Cert.Kernel2Ideal.nD) → Buf (Elt Ideal) ((c.tc : Thread Cert.Kernel2Ideal.nD Cert.Kernel2Ideal.τ).loc Cert.Kernel2Ideal.main_v15_5)) (v6 : (c : Dev Cert.Kernel2Ideal.nD) → Buf (Elt Ideal) ((c.tc : Thread Cert.Kernel2Ideal.nD Cert.Kernel2Ideal.τ).loc Cert.Kernel2Ideal.main_v15_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15_0) = v0 c
          ∧ r.2.mem ((c.tc : Thread Cert.Kernel2Ideal.nD Cert.Kernel2Ideal.τ).loc Cert.Kernel2Ideal.main_v15_1) = v1 c
          ∧ r.2.mem ((c.tc : Thread Cert.Kernel2Ideal.nD Cert.Kernel2Ideal.τ).loc Cert.Kernel2Ideal.main_v15_2) = v2 c
          ∧ r.2.mem ((c.tc : Thread Cert.Kernel2Ideal.nD Cert.Kernel2Ideal.τ).loc Cert.Kernel2Ideal.main_v15_3) = v3 c
          ∧ r.2.mem ((c.tc : Thread Cert.Kernel2Ideal.nD Cert.Kernel2Ideal.τ).loc Cert.Kernel2Ideal.main_v15_4) = v4 c
          ∧ r.2.mem ((c.tc : Thread Cert.Kernel2Ideal.nD Cert.Kernel2Ideal.τ).loc Cert.Kernel2Ideal.main_v15_5) = v5 c
          ∧ r.2.mem ((c.tc : Thread Cert.Kernel2Ideal.nD Cert.Kernel2Ideal.τ).loc Cert.Kernel2Ideal.main_v15_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v56) = v0 c
          ∧ r.2.mem ((c.tc : Thread Cert.Reference2Ideal.nD Cert.Reference2Ideal.τ).loc Cert.Reference2Ideal.main_v58) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v60) = v3 c
          ∧ r.2.mem ((c.tc : Thread Cert.Reference2Ideal.nD Cert.Reference2Ideal.τ).loc Cert.Reference2Ideal.main_v18) = v4 c
          ∧ r.2.mem ((c.tc : Thread Cert.Reference2Ideal.nD Cert.Reference2Ideal.τ).loc Cert.Reference2Ideal.main_v19) = v5 c
          ∧ r.2.mem ((c.tc : Thread Cert.Reference2Ideal.nD Cert.Reference2Ideal.τ).loc Cert.Reference2Ideal.main_v54) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v23_0)) (v1 : (c : Dev Cert.Kernel4Ideal.nD) → Buf (Elt Ideal) ((c.tc : Thread Cert.Kernel4Ideal.nD Cert.Kernel4Ideal.τ).loc Cert.Kernel4Ideal.main_v23_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v23_0) = v0 c
          ∧ r.2.mem ((c.tc : Thread Cert.Kernel4Ideal.nD Cert.Kernel4Ideal.τ).loc Cert.Kernel4Ideal.main_v23_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v19_0)) (v1 : (c : Dev Cert.Kernel5Ideal.nD) → Buf (Elt Ideal) ((c.tc : Thread Cert.Kernel5Ideal.nD Cert.Kernel5Ideal.τ).loc Cert.Kernel5Ideal.main_v19_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19_0) = v0 c
          ∧ r.2.mem ((c.tc : Thread Cert.Kernel5Ideal.nD Cert.Kernel5Ideal.τ).loc Cert.Kernel5Ideal.main_v19_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v1) = v0 c
          ∧ r.2.mem ((c.tc : Thread Cert.Reference5Ideal.nD Cert.Reference5Ideal.τ).loc Cert.Reference5Ideal.main_v15) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v20_0)) (v1 : (c : Dev Cert.Kernel6Ideal.nD) → Buf (Elt Ideal) ((c.tc : Thread Cert.Kernel6Ideal.nD Cert.Kernel6Ideal.τ).loc Cert.Kernel6Ideal.main_v20_1)) (v2 : (c : Dev Cert.Kernel6Ideal.nD) → Buf (Elt Ideal) ((c.tc : Thread Cert.Kernel6Ideal.nD Cert.Kernel6Ideal.τ).loc Cert.Kernel6Ideal.main_v20_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v20_0) = v0 c
          ∧ r.2.mem ((c.tc : Thread Cert.Kernel6Ideal.nD Cert.Kernel6Ideal.τ).loc Cert.Kernel6Ideal.main_v20_1) = v1 c
          ∧ r.2.mem ((c.tc : Thread Cert.Kernel6Ideal.nD Cert.Kernel6Ideal.τ).loc Cert.Kernel6Ideal.main_v20_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v13) = v0 c
          ∧ r.2.mem ((c.tc : Thread Cert.Reference6Ideal.nD Cert.Reference6Ideal.τ).loc Cert.Reference6Ideal.main_v47) = v1 c
          ∧ r.2.mem ((c.tc : Thread Cert.Reference6Ideal.nD Cert.Reference6Ideal.τ).loc Cert.Reference6Ideal.main_v49) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S32768x512 : Shape := ⟨2, ![32768, 512]⟩
abbrev S64 : Shape := ⟨1, ![64]⟩
abbrev S128 : Shape := ⟨1, ![128]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .f32) (main_arg1 : FVec F S32768x512 .f32) (main_arg2 : FVec F S32768x512 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  main_v8
-- ==== Kernel.lean ====
abbrev S32768x512 : Shape := ⟨2, ![32768, 512]⟩
abbrev S64 : Shape := ⟨1, ![64]⟩
abbrev S128 : Shape := ⟨1, ![128]⟩
abbrev S4 : Shape := ⟨1, ![4]⟩
abbrev S_ : Shape := ⟨0, ![]⟩
abbrev S16x2048x512 : Shape := ⟨3, ![16, 2048, 512]⟩
abbrev S1x64 : Shape := ⟨2, ![1, 64]⟩
abbrev S1x128 : Shape := ⟨2, ![1, 128]⟩
abbrev S1x256x128 : Shape := ⟨3, ![1, 256, 128]⟩
abbrev S1x2048x128 : Shape := ⟨3, ![1, 2048, 128]⟩
abbrev S256x2048 : Shape := ⟨2, ![256, 2048]⟩
abbrev S1 : Shape := ⟨1, ![1]⟩
abbrev S1x1x64 : Shape := ⟨3, ![1, 1, 64]⟩
abbrev S1x1x1 : Shape := ⟨3, ![1, 1, 1]⟩
abbrev S1x1 : Shape := ⟨2, ![1, 1]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩

abbrev nBuf : Space → Nat
  | .hbm => 28
  | .vmem => 14
  | .smem => 1
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4, .f32⟩
  | .hbm, ⟨9, _⟩ => ⟨S_, .f32⟩
  | .hbm, ⟨10, _⟩ => ⟨S32768x512, .f32⟩
  | .hbm, ⟨11, _⟩ => ⟨S32768x512, .f32⟩
  | .hbm, ⟨12, _⟩ => ⟨S_, .f32⟩
  | .hbm, ⟨13, _⟩ => ⟨S_, .f32⟩
  | .hbm, ⟨14, _⟩ => ⟨S32768x512, .f32⟩
  | .hbm, ⟨15, _⟩ => ⟨S32768x512, .f32⟩
  | .hbm, ⟨16, _⟩ => ⟨S32768x512, .bf16⟩
  | .hbm, ⟨17, _⟩ => ⟨S32768x512, .bf16⟩
  | .hbm, ⟨18, _⟩ => ⟨S32768x512, .bf16⟩
  | .hbm, ⟨19, _⟩ => ⟨S16x2048x512, .bf16⟩
  | .hbm, ⟨20, _⟩ => ⟨S16x2048x512, .bf16⟩
  | .hbm, ⟨21, _⟩ => ⟨S16x2048x512, .bf16⟩
  | .hbm, ⟨22, _⟩ => ⟨S1x64, .f32⟩
  | .hbm, ⟨23, _⟩ => ⟨S1x64, .f32⟩
  | .hbm, ⟨24, _⟩ => ⟨S1x64, .f32⟩
  | .hbm, ⟨25, _⟩ => ⟨S1x64, .f32⟩
  | .hbm, ⟨26, _⟩ => ⟨S1x128, .f32⟩
  | .hbm, ⟨27, _⟩ => ⟨S16x2048x512, .bf16⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x128, .f32⟩
  | .local _ .vmem, ⟨11, _⟩ => ⟨S1x256x128, .bf16⟩
  | .local _ .vmem, ⟨12, _⟩ => ⟨S1x256x128, .bf16⟩
  | .local _ .vmem, ⟨13, _⟩ => ⟨S256x2048, .f32⟩
  | .local _ .smem, ⟨0, _⟩ => ⟨S4, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨3, ![4, 8, 16], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg0 : BitVec 32 := BitVec.ofNat 32 (i 0).val
  let v96 : Index := Scalar.indexCast arg0
  ![v96.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat, arg0.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S32768x512 : Shape := ⟨2, ![32768, 512]⟩
abbrev S64 : Shape := ⟨1, ![64]⟩
abbrev S128 : Shape := ⟨1, ![128]⟩
abbrev S4 : Shape := ⟨1, ![4]⟩
abbrev S16x2048x4x2x64 : Shape := ⟨5, ![16, 2048, 4, 2, 64]⟩
abbrev S16x2048x4x128 : Shape := ⟨4, ![16, 2048, 4, 128]⟩
abbrev S_ : Shape := ⟨0, ![]⟩
abbrev S2048 : Shape := ⟨1, ![2048]⟩
abbrev S16x4x2x2048x2048 : Shape := ⟨5, ![16, 4, 2, 2048, 2048]⟩
abbrev S2048x1 : Shape := ⟨2, ![2048, 1]⟩
abbrev S1x2048 : Shape := ⟨2, ![1, 2048]⟩
abbrev S2048x2048 : Shape := ⟨2, ![2048, 2048]⟩
abbrev S1x4x1x1x1 : Shape := ⟨5, ![1, 4, 1, 1, 1]⟩
abbrev S1x1x1x2048x2048 : Shape := ⟨5, ![1, 1, 1, 2048, 2048]⟩
abbrev S1x4x1x2048x2048 : Shape := ⟨5, ![1, 4, 1, 2048, 2048]⟩
abbrev S16x4x2x2048 : Shape := ⟨4, ![16, 4, 2, 2048]⟩
abbrev S16x4x2x2048x1 : Shape := ⟨5, ![16, 4, 2, 2048, 1]⟩
abbrev S16x4x1x2048x2048 : Shape := ⟨5, ![16, 4, 1, 2048, 2048]⟩
abbrev S16x4x2048x2048 : Shape := ⟨4, ![16, 4, 2048, 2048]⟩
abbrev S16x4x128x2048 : Shape := ⟨4, ![16, 4, 128, 2048]⟩
abbrev S16x2048x4 : Shape := ⟨3, ![16, 2048, 4]⟩
abbrev S16x2048x4x1 : Shape := ⟨4, ![16, 2048, 4, 1]⟩
abbrev S1x1x1x128 : Shape := ⟨4, ![1, 1, 1, 128]⟩
abbrev S16x2048x512 : Shape := ⟨3, ![16, 2048, 512]⟩

abbrev nBuf : Space → Nat
  | .hbm => 86
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S4, .f32⟩
  | .hbm, ⟨9, _⟩ => ⟨S16x2048x4x2x64, .f32⟩
  | .hbm, ⟨10, _⟩ => ⟨S16x2048x4x2x64, .f32⟩
  | .hbm, ⟨11, _⟩ => ⟨S16x2048x4x128, .f32⟩
  | .hbm, ⟨12, _⟩ => ⟨S64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .i32⟩
  | .hbm, ⟨24, _⟩ => ⟨S2048, .f32⟩
  | .hbm, ⟨25, _⟩ => ⟨S16x4x2x2048x2048, .f32⟩
  | .hbm, ⟨26, _⟩ => ⟨S_, .f32⟩
  | .hbm, ⟨27, _⟩ => ⟨S16x4x2x2048x2048, .f32⟩
  | .hbm, ⟨28, _⟩ => ⟨S16x4x2x2048x2048, .f32⟩
  | .hbm, ⟨29, _⟩ => ⟨S2048x1, .f32⟩
  | .hbm, ⟨30, _⟩ => ⟨S1x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S2048x2048, .f32⟩
  | .hbm, ⟨35, _⟩ => ⟨S1x4x1x1x1, .f32⟩
  | .hbm, ⟨36, _⟩ => ⟨S1x1x1x2048x2048, .f32⟩
  | .hbm, ⟨37, _⟩ => ⟨S1x4x1x2048x2048, .f32⟩
  | .hbm, ⟨38, _⟩ => ⟨S1x4x1x2048x2048, .f32⟩
  | .hbm, ⟨39, _⟩ => ⟨S1x4x1x2048x2048, .f32⟩
  | .hbm, ⟨40, _⟩ => ⟨S16x4x2x2048x2048, .f32⟩
  | .hbm, ⟨41, _⟩ => ⟨S16x4x2x2048x2048, .f32⟩
  | .hbm, ⟨42, _⟩ => ⟨S_, .f32⟩
  | .hbm, ⟨43, _⟩ => ⟨S16x4x2x2048, .f32⟩
  | .hbm, ⟨44, _⟩ => ⟨S_, .f32⟩
  | .hbm, ⟨45, _⟩ => ⟨S16x4x2x2048, .f32⟩
  | .hbm, ⟨46, _⟩ => ⟨S16x4x2x2048, .f32⟩
  | .hbm, ⟨47, _⟩ => ⟨S16x4x2x2048x1, .f32⟩
  | .hbm, ⟨48, _⟩ => ⟨S16x4x2x2048x2048, .f32⟩
  | .hbm, ⟨49, _⟩ => ⟨S16x4x2x2048x2048, .f32⟩
  | .hbm, ⟨50, _⟩ => ⟨S16x4x2x2048x2048, .f32⟩
  | .hbm, ⟨51, _⟩ => ⟨S_, .f32⟩
  | .hbm, ⟨52, _⟩ => ⟨S16x4x2x2048, .f32⟩
  | .hbm, ⟨53, _⟩ => ⟨S16x4x2x2048x1, .f32⟩
  | .hbm, ⟨54, _⟩ => ⟨S16x4x2x2048x2048, .f32⟩
  | .hbm, ⟨55, _⟩ => ⟨S16x4x2x2048x2048, .f32⟩
  | .hbm, ⟨56, _⟩ => ⟨S16x4x1x2048x2048, .f32⟩
  | .hbm, ⟨57, _⟩ => ⟨S16x4x2048x2048, .f32⟩
  | .hbm, ⟨58, _⟩ => ⟨S16x4x1x2048x2048, .f32⟩
  | .hbm, ⟨59, _⟩ => ⟨S16x4x2048x2048, .f32⟩
  | .hbm, ⟨60, _⟩ => ⟨S16x4x2048x2048, .f32⟩
  | .hbm, ⟨61, _⟩ => ⟨S16x4x2048x2048, .f32⟩
  | .hbm, ⟨62, _⟩ => ⟨S16x4x2048x2048, .f32⟩
  | .hbm, ⟨63, _⟩ => ⟨S16x4x128x2048, .f32⟩
  | .hbm, ⟨64, _⟩ => ⟨S16x2048x4x128, .f32⟩
  | .hbm, ⟨65, _⟩ => ⟨S16x2048x4x128, .f32⟩
  | .hbm, ⟨66, _⟩ => ⟨S_, .f32⟩
  | .hbm, ⟨67, _⟩ => ⟨S16x2048x4, .f32⟩
  | .hbm, ⟨68, _⟩ => ⟨S16x2048x4x1, .f32⟩
  | .hbm, ⟨69, _⟩ => ⟨S_, .f32⟩
  | .hbm, ⟨70, _⟩ => ⟨S16x2048x4x1, .f32⟩
  | .hbm, ⟨71, _⟩ => ⟨S16x2048x4x1, .f32⟩
  | .hbm, ⟨72, _⟩ => ⟨S_, .f32⟩
  | .hbm, ⟨73, _⟩ => ⟨S16x2048x4x1, .f32⟩
  | .hbm, ⟨74, _⟩ => ⟨S16x2048x4x1, .f32⟩
  | .hbm, ⟨75, _⟩ => ⟨S16x2048x4x1, .f32⟩
  | .hbm, ⟨76, _⟩ => ⟨S16x2048x4x128, .f32⟩
  | .hbm, ⟨77, _⟩ => ⟨S16x2048x4x128, .f32⟩
  | .hbm, ⟨78, _⟩ => ⟨S1x1x1x128, .f32⟩
  | .hbm, ⟨79, _⟩ => ⟨S16x2048x4x128, .f32⟩
  | .hbm, ⟨80, _⟩ => ⟨S16x2048x4x128, .f32⟩
  | .hbm, ⟨81, _⟩ => ⟨S_, .f32⟩
  | .hbm, ⟨82, _⟩ => ⟨S16x2048x4x128, .f32⟩
  | .hbm, ⟨83, _⟩ => ⟨S16x2048x4x128, .f32⟩
  | .hbm, ⟨84, _⟩ => ⟨S16x2048x512, .f32⟩
  | .hbm, ⟨85, _⟩ => ⟨S16x2048x512, .bf16⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_cst_8 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x2832 : Shape := ⟨2, ![1024, 2832]⟩
abbrev S64 : Shape := ⟨1, ![64]⟩
abbrev S1024x1536 : Shape := ⟨2, ![1024, 1536]⟩
abbrev S1024x512 : Shape := ⟨2, ![1024, 512]⟩
abbrev S1024x768 : Shape := ⟨2, ![1024, 768]⟩
abbrev S1024x16 : Shape := ⟨2, ![1024, 16]⟩
abbrev S1x1024 : Shape := ⟨2, ![1, 1024]⟩
abbrev S16x1024 : Shape := ⟨2, ![16, 1024]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x512 : Shape := ⟨2, ![32768, 512]⟩
abbrev S32768x768 : Shape := ⟨2, ![32768, 768]⟩
abbrev S32768x16 : Shape := ⟨2, ![32768, 16]⟩
abbrev S256x16x128 : Shape := ⟨3, ![256, 16, 128]⟩
abbrev S512x1024 : Shape := ⟨2, ![512, 1024]⟩
abbrev S512x512 : Shape := ⟨2, ![512, 512]⟩
abbrev S512x768 : Shape := ⟨2, ![512, 768]⟩
abbrev S512x16 : Shape := ⟨2, ![512, 16]⟩
abbrev S4x16x128 : Shape := ⟨3, ![4, 16, 128]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S16x512 : Shape := ⟨2, ![16, 512]⟩
abbrev S16x128 : Shape := ⟨2, ![16, 128]⟩
abbrev S1x16x128 : Shape := ⟨3, ![1, 16, 128]⟩

abbrev nBuf : Space → Nat
  | .hbm => 27
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2832, .f32⟩
  | .hbm, ⟨3, _⟩ => ⟨S64, .f32⟩
  | .hbm, ⟨4, _⟩ => ⟨S64, .f32⟩
  | .hbm, ⟨5, _⟩ => ⟨S1024x2832, .bf16⟩
  | .hbm, ⟨6, _⟩ => ⟨S1024x1536, .bf16⟩
  | .hbm, ⟨7, _⟩ => ⟨S1024x512, .bf16⟩
  | .hbm, ⟨8, _⟩ => ⟨S1024x768, .bf16⟩
  | .hbm, ⟨9, _⟩ => ⟨S1024x16, .bf16⟩
  | .hbm, ⟨10, _⟩ => ⟨S1x1024, .f32⟩
  | .hbm, ⟨11, _⟩ => ⟨S16x1024, .bf16⟩
  | .hbm, ⟨12, _⟩ => ⟨S1x64, .f32⟩
  | .hbm, ⟨13, _⟩ => ⟨S2x64, .f32⟩
  | .hbm, ⟨14, _⟩ => ⟨S128, .f32⟩
  | .hbm, ⟨15, _⟩ => ⟨S1x128, .f32⟩
  | .hbm, ⟨16, _⟩ => ⟨S1x64, .f32⟩
  | .hbm, ⟨17, _⟩ => ⟨S2x64, .f32⟩
  | .hbm, ⟨18, _⟩ => ⟨S128, .f32⟩
  | .hbm, ⟨19, _⟩ => ⟨S1x128, .f32⟩
  | .hbm, ⟨20, _⟩ => ⟨S32768x512, .bf16⟩
  | .hbm, ⟨21, _⟩ => ⟨S32768x512, .bf16⟩
  | .hbm, ⟨22, _⟩ => ⟨S32768x512, .bf16⟩
  | .hbm, ⟨23, _⟩ => ⟨S32768x512, .bf16⟩
  | .hbm, ⟨24, _⟩ => ⟨S32768x768, .f32⟩
  | .hbm, ⟨25, _⟩ => ⟨S32768x16, .f32⟩
  | .hbm, ⟨26, _⟩ => ⟨S256x16x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S1024x512, .bf16⟩
  | .local _ .vmem, ⟨5, _⟩ => ⟨S1024x768, .bf16⟩
  | .local _ .vmem, ⟨6, _⟩ => ⟨S1024x16, .bf16⟩
  | .local _ .vmem, ⟨7, _⟩ => ⟨S16x1024, .bf16⟩
  | .local _ .vmem, ⟨8, _⟩ => ⟨S1x128, .f32⟩
  | .local _ .vmem, ⟨9, _⟩ => ⟨S1x128, .f32⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x768, .f32⟩
  | .local _ .vmem, ⟨19, _⟩ => ⟨S512x768, .f32⟩
  | .local _ .vmem, ⟨20, _⟩ => ⟨S512x16, .f32⟩
  | .local _ .vmem, ⟨21, _⟩ => ⟨S512x16, .f32⟩
  | .local _ .vmem, ⟨22, _⟩ => ⟨S4x16x128, .f32⟩
  | .local _ .vmem, ⟨23, _⟩ => ⟨S4x16x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev main_v15_3 : Ref sig .tc := ⟨.hbm, 23, rfl⟩
abbrev main_v15_4 : Ref sig .tc := ⟨.hbm, 24, rfl⟩
abbrev main_v15_5 : Ref sig .tc := ⟨.hbm, 25, rfl⟩
abbrev main_v15_6 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x16 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S4x16x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Kernel2Ideal.lean ====
variable {F : FTy → Type} [FloatOps F] [Named F]
def κ : String → Option EReal := fun
  | "qscale" => some (((Real.log 256)⁻¹ : ℝ) : EReal)
  | _ => none
-- ==== Reference2Ideal.lean ====
abbrev S32768x1024 : Shape := ⟨2, ![32768, 1024]⟩
abbrev S1024 : Shape := ⟨1, ![1024]⟩
abbrev S1024x2832 : Shape := ⟨2, ![1024, 2832]⟩
abbrev S64 : Shape := ⟨1, ![64]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2832 : Shape := ⟨2, ![32768, 2832]⟩
abbrev S32768x512 : Shape := ⟨2, ![32768, 512]⟩
abbrev S32768x768 : Shape := ⟨2, ![32768, 768]⟩
abbrev S32768x16 : Shape := ⟨2, ![32768, 16]⟩
abbrev S32768x4x2x64 : Shape := ⟨4, ![32768, 4, 2, 64]⟩
abbrev S32768x4x2 : Shape := ⟨3, ![32768, 4, 2]⟩
abbrev S32768x4x2x1 : Shape := ⟨4, ![32768, 4, 2, 1]⟩
abbrev S1x1x1x64 : Shape := ⟨4, ![1, 1, 1, 64]⟩
abbrev S256x128x16 : Shape := ⟨3, ![256, 128, 16]⟩
abbrev S256x16x128 : Shape := ⟨3, ![256, 16, 128]⟩

abbrev nBuf : Space → Nat
  | .hbm => 77
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2832, .f32⟩
  | .hbm, ⟨3, _⟩ => ⟨S64, .f32⟩
  | .hbm, ⟨4, _⟩ => ⟨S64, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2832, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x768, .f32⟩
  | .hbm, ⟨27, _⟩ => ⟨S32768x16, .f32⟩
  | .hbm, ⟨28, _⟩ => ⟨S32768x4x2x64, .f32⟩
  | .hbm, ⟨29, _⟩ => ⟨S32768x4x2x64, .f32⟩
  | .hbm, ⟨30, _⟩ => ⟨S_, .f32⟩
  | .hbm, ⟨31, _⟩ => ⟨S32768x4x2, .f32⟩
  | .hbm, ⟨32, _⟩ => ⟨S32768x4x2x1, .f32⟩
  | .hbm, ⟨33, _⟩ => ⟨S_, .f32⟩
  | .hbm, ⟨34, _⟩ => ⟨S32768x4x2x1, .f32⟩
  | .hbm, ⟨35, _⟩ => ⟨S32768x4x2x1, .f32⟩
  | .hbm, ⟨36, _⟩ => ⟨S_, .f32⟩
  | .hbm, ⟨37, _⟩ => ⟨S32768x4x2x1, .f32⟩
  | .hbm, ⟨38, _⟩ => ⟨S32768x4x2x1, .f32⟩
  | .hbm, ⟨39, _⟩ => ⟨S32768x4x2x1, .f32⟩
  | .hbm, ⟨40, _⟩ => ⟨S32768x4x2x64, .f32⟩
  | .hbm, ⟨41, _⟩ => ⟨S32768x4x2x64, .f32⟩
  | .hbm, ⟨42, _⟩ => ⟨S1x1x1x64, .f32⟩
  | .hbm, ⟨43, _⟩ => ⟨S32768x4x2x64, .f32⟩
  | .hbm, ⟨44, _⟩ => ⟨S32768x4x2x64, .f32⟩
  | .hbm, ⟨45, _⟩ => ⟨S32768x4x2x64, .f32⟩
  | .hbm, ⟨46, _⟩ => ⟨S32768x4x2x64, .f32⟩
  | .hbm, ⟨47, _⟩ => ⟨S_, .f32⟩
  | .hbm, ⟨48, _⟩ => ⟨S32768x4x2, .f32⟩
  | .hbm, ⟨49, _⟩ => ⟨S32768x4x2x1, .f32⟩
  | .hbm, ⟨50, _⟩ => ⟨S_, .f32⟩
  | .hbm, ⟨51, _⟩ => ⟨S32768x4x2x1, .f32⟩
  | .hbm, ⟨52, _⟩ => ⟨S32768x4x2x1, .f32⟩
  | .hbm, ⟨53, _⟩ => ⟨S_, .f32⟩
  | .hbm, ⟨54, _⟩ => ⟨S32768x4x2x1, .f32⟩
  | .hbm, ⟨55, _⟩ => ⟨S32768x4x2x1, .f32⟩
  | .hbm, ⟨56, _⟩ => ⟨S32768x4x2x1, .f32⟩
  | .hbm, ⟨57, _⟩ => ⟨S32768x4x2x64, .f32⟩
  | .hbm, ⟨58, _⟩ => ⟨S32768x4x2x64, .f32⟩
  | .hbm, ⟨59, _⟩ => ⟨S1x1x1x64, .f32⟩
  | .hbm, ⟨60, _⟩ => ⟨S32768x4x2x64, .f32⟩
  | .hbm, ⟨61, _⟩ => ⟨S32768x4x2x64, .f32⟩
  | .hbm, ⟨62, _⟩ => ⟨S_, .f32⟩
  | .hbm, ⟨63, _⟩ => ⟨S32768x4x2x64, .f32⟩
  | .hbm, ⟨64, _⟩ => ⟨S32768x4x2x64, .f32⟩
  | .hbm, ⟨65, _⟩ => ⟨S_, .f32⟩
  | .hbm, ⟨66, _⟩ => ⟨S_, .f32⟩
  | .hbm, ⟨67, _⟩ => ⟨S32768x4x2x64, .f32⟩
  | .hbm, ⟨68, _⟩ => ⟨S32768x4x2x64, .f32⟩
  | .hbm, ⟨69, _⟩ => ⟨S256x128x16, .f32⟩
  | .hbm, ⟨70, _⟩ => ⟨S256x16x128, .f32⟩
  | .hbm, ⟨71, _⟩ => ⟨S32768x512, .f32⟩
  | .hbm, ⟨72, _⟩ => ⟨S32768x512, .bf16⟩
  | .hbm, ⟨73, _⟩ => ⟨S32768x512, .f32⟩
  | .hbm, ⟨74, _⟩ => ⟨S32768x512, .bf16⟩
  | .hbm, ⟨75, _⟩ => ⟨S32768x512, .bf16⟩
  | .hbm, ⟨76, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_cst_9 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Kernel3.lean ====
abbrev S32768x1024 : Shape := ⟨2, ![32768, 1024]⟩
abbrev S528384x128 : Shape := ⟨2, ![528384, 128]⟩
abbrev S32768x128 : Shape := ⟨2, ![32768, 128]⟩
abbrev S512x1024 : Shape := ⟨2, ![512, 1024]⟩
abbrev S4096x128 : Shape := ⟨2, ![4096, 128]⟩
abbrev S512x128 : Shape := ⟨2, ![512, 128]⟩
abbrev S512x1 : Shape := ⟨2, ![512, 1]⟩

abbrev nBuf : Space → Nat
  | .hbm => 4
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S528384x128, .f32⟩
  | .hbm, ⟨2, _⟩ => ⟨S32768x128, .f32⟩
  | .hbm, ⟨3, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S32768x1024 : Shape := ⟨2, ![32768, 1024]⟩
abbrev S528384x128 : Shape := ⟨2, ![528384, 128]⟩
abbrev S32768x128 : Shape := ⟨2, ![32768, 128]⟩
abbrev S524288x128 : Shape := ⟨2, ![524288, 128]⟩
abbrev S2x32768x1024 : Shape := ⟨3, ![2, 32768, 1024]⟩
abbrev S32768x1 : Shape := ⟨2, ![32768, 1]⟩
abbrev S1x32768x1024 : Shape := ⟨3, ![1, 32768, 1024]⟩

abbrev nBuf : Space → Nat
  | .hbm => 17
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S528384x128, .f32⟩
  | .hbm, ⟨2, _⟩ => ⟨S32768x128, .f32⟩
  | .hbm, ⟨3, _⟩ => ⟨S524288x128, .f32⟩
  | .hbm, ⟨4, _⟩ => ⟨S2x32768x1024, .f32⟩
  | .hbm, ⟨5, _⟩ => ⟨S32768x1, .f32⟩
  | .hbm, ⟨6, _⟩ => ⟨S1x32768x1024, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1, .f32⟩
  | .hbm, ⟨12, _⟩ => ⟨S1x32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S512x1024 : Shape := ⟨2, ![512, 1024]⟩
abbrev S_ : Shape := ⟨0, ![]⟩
abbrev S1024x128 : Shape := ⟨2, ![1024, 128]⟩
abbrev S1024x32 : Shape := ⟨2, ![1024, 32]⟩
abbrev S1024x36 : Shape := ⟨2, ![1024, 36]⟩
abbrev S1 : Shape := ⟨1, ![1]⟩
abbrev S1x128 : Shape := ⟨2, ![1, 128]⟩
abbrev S32 : Shape := ⟨1, ![32]⟩
abbrev S36 : Shape := ⟨1, ![36]⟩
abbrev S2 : Shape := ⟨1, ![2]⟩
abbrev S1x1024 : Shape := ⟨2, ![1, 1024]⟩
abbrev S262144x128 : Shape := ⟨2, ![262144, 128]⟩
abbrev S32768x128 : Shape := ⟨2, ![32768, 128]⟩
abbrev S8x128 : Shape := ⟨2, ![8, 128]⟩
abbrev S512x512 : Shape := ⟨2, ![512, 512]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S128 : Shape := ⟨1, ![128]⟩
abbrev S1x32 : Shape := ⟨2, ![1, 32]⟩

abbrev nBuf : Space → Nat
  | .hbm => 45
  | .vmem => 21
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x4x8, .f32⟩
  | .hbm, ⟨8, _⟩ => ⟨S4x8, .f32⟩
  | .hbm, ⟨9, _⟩ => ⟨S32768x512, .bf16⟩
  | .hbm, ⟨10, _⟩ => ⟨S32768x512, .bf16⟩
  | .hbm, ⟨11, _⟩ => ⟨S512x1024, .f32⟩
  | .hbm, ⟨12, _⟩ => ⟨S512x1024, .f32⟩
  | .hbm, ⟨13, _⟩ => ⟨S_, .f32⟩
  | .hbm, ⟨14, _⟩ => ⟨S1024x128, .f32⟩
  | .hbm, ⟨15, _⟩ => ⟨S1024x32, .f32⟩
  | .hbm, ⟨16, _⟩ => ⟨S1024x36, .f32⟩
  | .hbm, ⟨17, _⟩ => ⟨S_, .i32⟩
  | .hbm, ⟨18, _⟩ => ⟨S1, .i32⟩
  | .hbm, ⟨19, _⟩ => ⟨S1024x128, .f32⟩
  | .hbm, ⟨20, _⟩ => ⟨S_, .f32⟩
  | .hbm, ⟨21, _⟩ => ⟨S1x128, .f32⟩
  | .hbm, ⟨22, _⟩ => ⟨S32, .f32⟩
  | .hbm, ⟨23, _⟩ => ⟨S36, .f32⟩
  | .hbm, ⟨24, _⟩ => ⟨S_, .i32⟩
  | .hbm, ⟨25, _⟩ => ⟨S1, .i32⟩
  | .hbm, ⟨26, _⟩ => ⟨S_, .i32⟩
  | .hbm, ⟨27, _⟩ => ⟨S1, .i32⟩
  | .hbm, ⟨28, _⟩ => ⟨S2, .i32⟩
  | .hbm, ⟨29, _⟩ => ⟨S1x128, .f32⟩
  | .hbm, ⟨30, _⟩ => ⟨S1024x128, .bf16⟩
  | .hbm, ⟨31, _⟩ => ⟨S1024x128, .f32⟩
  | .hbm, ⟨32, _⟩ => ⟨S1024x128, .f32⟩
  | .hbm, ⟨33, _⟩ => ⟨S1024x128, .bf16⟩
  | .hbm, ⟨34, _⟩ => ⟨S512x1024, .bf16⟩
  | .hbm, ⟨35, _⟩ => ⟨S512x1024, .bf16⟩
  | .hbm, ⟨36, _⟩ => ⟨S1x1024, .f32⟩
  | .hbm, ⟨37, _⟩ => ⟨S32768x1024, .f32⟩
  | .hbm, ⟨38, _⟩ => ⟨S262144x128, .f32⟩
  | .hbm, ⟨39, _⟩ => ⟨S32768x128, .i32⟩
  | .hbm, ⟨40, _⟩ => ⟨S32768x128, .f32⟩
  | .hbm, ⟨41, _⟩ => ⟨S8x128, .f32⟩
  | .hbm, ⟨42, _⟩ => ⟨S1x32, .f32⟩
  | .hbm, ⟨43, _⟩ => ⟨S32, .f32⟩
  | .hbm, ⟨44, _⟩ => ⟨S32, .i32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1024x128, .bf16⟩
  | .local _ .vmem, ⟨10, _⟩ => ⟨S1024x128, .bf16⟩
  | .local _ .vmem, ⟨11, _⟩ => ⟨S1x128, .f32⟩
  | .local _ .vmem, ⟨12, _⟩ => ⟨S512x1024, .f32⟩
  | .local _ .vmem, ⟨13, _⟩ => ⟨S512x1024, .f32⟩
  | .local _ .vmem, ⟨14, _⟩ => ⟨S4096x128, .f32⟩
  | .local _ .vmem, ⟨15, _⟩ => ⟨S4096x128, .f32⟩
  | .local _ .vmem, ⟨16, _⟩ => ⟨S512x128, .i32⟩
  | .local _ .vmem, ⟨17, _⟩ => ⟨S512x128, .i32⟩
  | .local _ .vmem, ⟨18, _⟩ => ⟨S512x128, .f32⟩
  | .local _ .vmem, ⟨19, _⟩ => ⟨S512x128, .f32⟩
  | .local _ .vmem, ⟨20, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v23_3 : Ref sig .tc := ⟨.hbm, 40, rfl⟩
abbrev main_v23_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference4Ideal.lean ====
abbrev S32768x1024 : Shape := ⟨2, ![32768, 1024]⟩
abbrev S32768x512 : Shape := ⟨2, ![32768, 512]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S262144x128 : Shape := ⟨2, ![262144, 128]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S32768x512, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x4x8, .f32⟩
  | .hbm, ⟨8, _⟩ => ⟨S4x8, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S_, .f32⟩
  | .hbm, ⟨20, _⟩ => ⟨S32768x1, .f32⟩
  | .hbm, ⟨21, _⟩ => ⟨S32768x1, .f32⟩
  | .hbm, ⟨22, _⟩ => ⟨S32768x1, .f32⟩
  | .hbm, ⟨23, _⟩ => ⟨S32768x1024, .f32⟩
  | .hbm, ⟨24, _⟩ => ⟨S32768x1024, .f32⟩
  | .hbm, ⟨25, _⟩ => ⟨S1x1024, .f32⟩
  | .hbm, ⟨26, _⟩ => ⟨S32768x1024, .f32⟩
  | .hbm, ⟨27, _⟩ => ⟨S32768x1024, .f32⟩
  | .hbm, ⟨28, _⟩ => ⟨S262144x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel5.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩
abbrev S1024x128 : Shape := ⟨2, ![1024, 128]⟩
abbrev S1024x32 : Shape := ⟨2, ![1024, 32]⟩
abbrev S1024x36 : Shape := ⟨2, ![1024, 36]⟩
abbrev S1 : Shape := ⟨1, ![1]⟩
abbrev S1x128 : Shape := ⟨2, ![1, 128]⟩
abbrev S32 : Shape := ⟨1, ![32]⟩
abbrev S36 : Shape := ⟨1, ![36]⟩
abbrev S2 : Shape := ⟨1, ![2]⟩
abbrev S1x1024 : Shape := ⟨2, ![1, 1024]⟩
abbrev S262144x128 : Shape := ⟨2, ![262144, 128]⟩
abbrev S32768x128 : Shape := ⟨2, ![32768, 128]⟩
abbrev S8x128 : Shape := ⟨2, ![8, 128]⟩
abbrev S512x1024 : Shape := ⟨2, ![512, 1024]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128 : Shape := ⟨1, ![128]⟩
abbrev S1x32 : Shape := ⟨2, ![1, 32]⟩

abbrev nBuf : Space → Nat
  | .hbm => 40
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x4, .f32⟩
  | .hbm, ⟨5, _⟩ => ⟨S4, .f32⟩
  | .hbm, ⟨6, _⟩ => ⟨S1024x4x8, .f32⟩
  | .hbm, ⟨7, _⟩ => ⟨S4x8, .f32⟩
  | .hbm, ⟨8, _⟩ => ⟨S32768x1024, .bf16⟩
  | .hbm, ⟨9, _⟩ => ⟨S_, .f32⟩
  | .hbm, ⟨10, _⟩ => ⟨S1024x128, .f32⟩
  | .hbm, ⟨11, _⟩ => ⟨S1024x32, .f32⟩
  | .hbm, ⟨12, _⟩ => ⟨S1024x36, .f32⟩
  | .hbm, ⟨13, _⟩ => ⟨S_, .i32⟩
  | .hbm, ⟨14, _⟩ => ⟨S1, .i32⟩
  | .hbm, ⟨15, _⟩ => ⟨S1024x128, .f32⟩
  | .hbm, ⟨16, _⟩ => ⟨S_, .f32⟩
  | .hbm, ⟨17, _⟩ => ⟨S1x128, .f32⟩
  | .hbm, ⟨18, _⟩ => ⟨S32, .f32⟩
  | .hbm, ⟨19, _⟩ => ⟨S36, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S1x128, .f32⟩
  | .hbm, ⟨26, _⟩ => ⟨S1024x128, .bf16⟩
  | .hbm, ⟨27, _⟩ => ⟨S1024x128, .f32⟩
  | .hbm, ⟨28, _⟩ => ⟨S1024x128, .f32⟩
  | .hbm, ⟨29, _⟩ => ⟨S1024x128, .bf16⟩
  | .hbm, ⟨30, _⟩ => ⟨S1024x1024, .bf16⟩
  | .hbm, ⟨31, _⟩ => ⟨S1x1024, .f32⟩
  | .hbm, ⟨32, _⟩ => ⟨S32768x1024, .f32⟩
  | .hbm, ⟨33, _⟩ => ⟨S262144x128, .f32⟩
  | .hbm, ⟨34, _⟩ => ⟨S32768x128, .i32⟩
  | .hbm, ⟨35, _⟩ => ⟨S32768x128, .f32⟩
  | .hbm, ⟨36, _⟩ => ⟨S8x128, .f32⟩
  | .hbm, ⟨37, _⟩ => ⟨S1x32, .f32⟩
  | .hbm, ⟨38, _⟩ => ⟨S32, .f32⟩
  | .hbm, ⟨39, _⟩ => ⟨S32, .i32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x128, .bf16⟩
  | .local _ .vmem, ⟨7, _⟩ => ⟨S1024x128, .bf16⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S4096x128, .f32⟩
  | .local _ .vmem, ⟨12, _⟩ => ⟨S4096x128, .f32⟩
  | .local _ .vmem, ⟨13, _⟩ => ⟨S512x128, .i32⟩
  | .local _ .vmem, ⟨14, _⟩ => ⟨S512x128, .i32⟩
  | .local _ .vmem, ⟨15, _⟩ => ⟨S512x128, .f32⟩
  | .local _ .vmem, ⟨16, _⟩ => ⟨S512x128, .f32⟩
  | .local _ .vmem, ⟨17, _⟩ => ⟨S8x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_1 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x4x8 : Shape := ⟨3, ![1024, 4, 8]⟩
abbrev S4x8 : Shape := ⟨2, ![4, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S262144x128 : Shape := ⟨2, ![262144, 128]⟩

abbrev nBuf : Space → Nat
  | .hbm => 27
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024x4, .f32⟩
  | .hbm, ⟨5, _⟩ => ⟨S4, .f32⟩
  | .hbm, ⟨6, _⟩ => ⟨S1024x4x8, .f32⟩
  | .hbm, ⟨7, _⟩ => ⟨S4x8, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S262144x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩

abbrev nD : Nat := 1
abbrev τ : Topo := Topo.v7x

variable {F : FTy → Type} [FloatOps F]
-- ==== Kernel6.lean ====
abbrev S32768x1024 : Shape := ⟨2, ![32768, 1024]⟩
abbrev S528384x128 : Shape := ⟨2, ![528384, 128]⟩
abbrev S32768x128 : Shape := ⟨2, ![32768, 128]⟩
abbrev S1024 : Shape := ⟨1, ![1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S1x1024 : Shape := ⟨2, ![1, 1024]⟩
abbrev S512x1024 : Shape := ⟨2, ![512, 1024]⟩
abbrev S4096x128 : Shape := ⟨2, ![4096, 128]⟩
abbrev S512x128 : Shape := ⟨2, ![512, 128]⟩
abbrev S512x1 : Shape := ⟨2, ![512, 1]⟩
abbrev S512 : Shape := ⟨1, ![512]⟩
abbrev S512x256 : Shape := ⟨2, ![512, 256]⟩

abbrev nBuf : Space → Nat
  | .hbm => 51
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S528384x128, .f32⟩
  | .hbm, ⟨2, _⟩ => ⟨S32768x128, .f32⟩
  | .hbm, ⟨3, _⟩ => ⟨S1024, .f32⟩
  | .hbm, ⟨4, _⟩ => ⟨S256, .i32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S256x256, .i32⟩
  | .hbm, ⟨24, _⟩ => ⟨S256x256, .i1⟩
  | .hbm, ⟨25, _⟩ => ⟨S_, .i32⟩
  | .hbm, ⟨26, _⟩ => ⟨S_, .i1⟩
  | .hbm, ⟨27, _⟩ => ⟨S256x256, .i1⟩
  | .hbm, ⟨28, _⟩ => ⟨S256x256, .i1⟩
  | .hbm, ⟨29, _⟩ => ⟨S256x256, .i1⟩
  | .hbm, ⟨30, _⟩ => ⟨S256x256, .i32⟩
  | .hbm, ⟨31, _⟩ => ⟨S256x256, .i32⟩
  | .hbm, ⟨32, _⟩ => ⟨S256x256, .i32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S_, .f32⟩
  | .hbm, ⟨39, _⟩ => ⟨S256x256, .f32⟩
  | .hbm, ⟨40, _⟩ => ⟨S256x256, .f32⟩
  | .hbm, ⟨41, _⟩ => ⟨S256x256, .f32⟩
  | .hbm, ⟨42, _⟩ => ⟨S_, .f32⟩
  | .hbm, ⟨43, _⟩ => ⟨S256x256, .f32⟩
  | .hbm, ⟨44, _⟩ => ⟨S256x256, .f32⟩
  | .hbm, ⟨45, _⟩ => ⟨S256x256, .bf16⟩
  | .hbm, ⟨46, _⟩ => ⟨S256x256, .bf16⟩
  | .hbm, ⟨47, _⟩ => ⟨S1x1024, .f32⟩
  | .hbm, ⟨48, _⟩ => ⟨S32768x1024, .f32⟩
  | .hbm, ⟨49, _⟩ => ⟨S32768x1024, .bf16⟩
  | .hbm, ⟨50, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S512x128, .f32⟩
  | .local _ .vmem, ⟨7, _⟩ => ⟨S512x128, .f32⟩
  | .local _ .vmem, ⟨8, _⟩ => ⟨S1x1024, .f32⟩
  | .local _ .vmem, ⟨9, _⟩ => ⟨S256x256, .bf16⟩
  | .local _ .vmem, ⟨10, _⟩ => ⟨S256x256, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_1 : Ref sig .tc := ⟨.hbm, 19, rfl⟩
abbrev main_call0_v5 : Ref sig .tc := ⟨.hbm, 20, rfl⟩
abbrev main_call0_v6 : Ref sig .tc := ⟨.hbm, 21, rfl⟩
abbrev main_call0_c_2 : Ref sig .tc := ⟨.hbm, 22, rfl⟩
abbrev main_call0_v7 : Ref sig .tc := ⟨.hbm, 23, rfl⟩
abbrev main_call0_v8 : Ref sig .tc := ⟨.hbm, 24, rfl⟩
abbrev main_call0_c_3 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_v7 : Ref sig .tc := ⟨.hbm, 32, rfl⟩
abbrev main_v8 : Ref sig .tc := ⟨.hbm, 33, rfl⟩
abbrev main_cst : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_cst_0 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v20_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S32768x1024 : Shape := ⟨2, ![32768, 1024]⟩
abbrev S528384x128 : Shape := ⟨2, ![528384, 128]⟩
abbrev S32768x128 : Shape := ⟨2, ![32768, 128]⟩
abbrev S1024 : Shape := ⟨1, ![1024]⟩
abbrev S524288x128 : Shape := ⟨2, ![524288, 128]⟩
abbrev S2x32768x1024 : Shape := ⟨3, ![2, 32768, 1024]⟩
abbrev S32768x1 : Shape := ⟨2, ![32768, 1]⟩
abbrev S1x32768x1024 : Shape := ⟨3, ![1, 32768, 1024]⟩
abbrev S_ : Shape := ⟨0, ![]⟩
abbrev S32768 : Shape := ⟨1, ![32768]⟩
abbrev S1x1024 : Shape := ⟨2, ![1, 1024]⟩
abbrev S32768x4x256 : Shape := ⟨3, ![32768, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩

abbrev nBuf : Space → Nat
  | .hbm => 81
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S528384x128, .f32⟩
  | .hbm, ⟨2, _⟩ => ⟨S32768x128, .f32⟩
  | .hbm, ⟨3, _⟩ => ⟨S1024, .f32⟩
  | .hbm, ⟨4, _⟩ => ⟨S524288x128, .f32⟩
  | .hbm, ⟨5, _⟩ => ⟨S2x32768x1024, .f32⟩
  | .hbm, ⟨6, _⟩ => ⟨S32768x1, .f32⟩
  | .hbm, ⟨7, _⟩ => ⟨S1x32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1, .f32⟩
  | .hbm, ⟨13, _⟩ => ⟨S1x32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S_, .f32⟩
  | .hbm, ⟨23, _⟩ => ⟨S32768x1, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S1x1024, .f32⟩
  | .hbm, ⟨32, _⟩ => ⟨S32768x1024, .f32⟩
  | .hbm, ⟨33, _⟩ => ⟨S32768x1024, .f32⟩
  | .hbm, ⟨34, _⟩ => ⟨S32768x4x256, .f32⟩
  | .hbm, ⟨35, _⟩ => ⟨S256, .i32⟩
  | .hbm, ⟨36, _⟩ => ⟨S256x1, .i32⟩
  | .hbm, ⟨37, _⟩ => ⟨S1x256, .i32⟩
  | .hbm, ⟨38, _⟩ => ⟨S256x256, .i32⟩
  | .hbm, ⟨39, _⟩ => ⟨S256x256, .i32⟩
  | .hbm, ⟨40, _⟩ => ⟨S256x256, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S256x256, .i32⟩
  | .hbm, ⟨51, _⟩ => ⟨S256x256, .i1⟩
  | .hbm, ⟨52, _⟩ => ⟨S_, .i32⟩
  | .hbm, ⟨53, _⟩ => ⟨S256x256, .i32⟩
  | .hbm, ⟨54, _⟩ => ⟨S256x256, .i1⟩
  | .hbm, ⟨55, _⟩ => ⟨S_, .i32⟩
  | .hbm, ⟨56, _⟩ => ⟨S_, .i1⟩
  | .hbm, ⟨57, _⟩ => ⟨S256x256, .i1⟩
  | .hbm, ⟨58, _⟩ => ⟨S256x256, .i1⟩
  | .hbm, ⟨59, _⟩ => ⟨S256x256, .i1⟩
  | .hbm, ⟨60, _⟩ => ⟨S256x256, .i32⟩
  | .hbm, ⟨61, _⟩ => ⟨S256x256, .i32⟩
  | .hbm, ⟨62, _⟩ => ⟨S256x256, .i32⟩
  | .hbm, ⟨63, _⟩ => ⟨S256x256, .f32⟩
  | .hbm, ⟨64, _⟩ => ⟨S_, .f32⟩
  | .hbm, ⟨65, _⟩ => ⟨S256x256, .f32⟩
  | .hbm, ⟨66, _⟩ => ⟨S256x256, .f32⟩
  | .hbm, ⟨67, _⟩ => ⟨S256x256, .f32⟩
  | .hbm, ⟨68, _⟩ => ⟨S_, .f32⟩
  | .hbm, ⟨69, _⟩ => ⟨S256x256, .f32⟩
  | .hbm, ⟨70, _⟩ => ⟨S256x256, .f32⟩
  | .hbm, ⟨71, _⟩ => ⟨S32768x4x256, .f32⟩
  | .hbm, ⟨72, _⟩ => ⟨S256x256, .f32⟩
  | .hbm, ⟨73, _⟩ => ⟨S_, .f32⟩
  | .hbm, ⟨74, _⟩ => ⟨S256x256, .f32⟩
  | .hbm, ⟨75, _⟩ => ⟨S256x256, .f32⟩
  | .hbm, ⟨76, _⟩ => ⟨S32768x4x256, .f32⟩
  | .hbm, ⟨77, _⟩ => ⟨S32768x1024, .f32⟩
  | .hbm, ⟨78, _⟩ => ⟨S32768x1024, .bf16⟩
  | .hbm, ⟨79, _⟩ => ⟨S32768x1024, .f32⟩
  | .hbm, ⟨80, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_c : Ref sig .tc := ⟨.hbm, 41, rfl⟩
abbrev main_call0_v0 : Ref sig .tc := ⟨.hbm, 42, rfl⟩
abbrev main_call0_c : Ref sig .tc := ⟨.hbm, 43, rfl⟩
abbrev main_call0_v1 : Ref sig .tc := ⟨.hbm, 44, rfl⟩
abbrev main_call0_c_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_c_1 : Ref sig .tc := ⟨.hbm, 49, rfl⟩
abbrev main_call0_v5 : Ref sig .tc := ⟨.hbm, 50, rfl⟩
abbrev main_call0_v6 : Ref sig .tc := ⟨.hbm, 51, rfl⟩
abbrev main_call0_c_2 : Ref sig .tc := ⟨.hbm, 52, rfl⟩
abbrev main_call0_v7 : Ref sig .tc := ⟨.hbm, 53, rfl⟩
abbrev main_call0_v8 : Ref sig .tc := ⟨.hbm, 54, rfl⟩
abbrev main_call0_c_3 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_v12 : Ref sig .tc := ⟨.hbm, 59, rfl⟩
abbrev main_call0_v13 : Ref sig .tc := ⟨.hbm, 60, rfl⟩
abbrev main_call0_v14 : Ref sig .tc := ⟨.hbm, 61, rfl⟩
abbrev main_v34 : Ref sig .tc := ⟨.hbm, 62, rfl⟩
abbrev main_v35 : Ref sig .tc := ⟨.hbm, 63, rfl⟩
abbrev main_cst_2 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_3 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_4 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩

abbrev nD : Nat := 1
abbrev τ : Topo := Topo.v7x

variable {F : FTy → Type} [FloatOps F]
-- ==== Proof.Attention.Block.lean ====
/- One grid point of the attention kernel, read as values: the block it writes and the bias it leaves for the points after it. -/
module

public import proofs.«01_k».proof.Proof.Gen.KernelIdeal.Value
public import Idealize.ShloMosaic.Lib.Pointwise

@[expose] public section

noncomputable section

namespace Cert.KernelIdeal.Attention

open Cert.KernelIdeal Cert.KernelIdeal.Gen Idealize.ShloMosaic Idealize.ShloMosaic.TcCoe Idealize.SL.Sem

variable {F : FTy → Type} [FloatOps F] [Named F]

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The slope of the head that a grid point works on. -/
def slopeAt (i : grid0.Coords) (x0 : Vec F S4 .f32) : Elt F .f32 := x0 (ix1 ⟨(i 0).val, (i 0).isLt⟩)

/-- The kernel's load from the table of slopes at its first grid coordinate. -/
theorem slope_load (i : grid0.Coords) (x0 : Vec F S4 .f32)
    (hin : ∀ a : Fin S4.rank, (![BitVec.toNat (Scalar.indexCast (BitVec.ofNat 32 (i 0).val))] : Fin 1 → Nat) a + (![1] : Fin 1 → Nat) a ≤ S4.size a)
    (hp : 0 < (Rect.unit (s := S4) ![BitVec.toNat (Scalar.indexCast (BitVec.ofNat 32 (i 0).val))] ![1] hin).shape.numel) :
    View.ld x0 (Rect.unit (s := S4) ![BitVec.toNat (Scalar.indexCast (BitVec.ofNat 32 (i 0).val))] ![1] hin) (Shape.Idx.first hp) = slopeAt i x0 := by
  unfold slopeAt View.ld
  congr 1
  funext a
  apply Fin.ext
  have hi : (i 0).val < 4 := (i 0).isLt
  match a with
  | ⟨0, _⟩ =>
    show BitVec.toNat (BitVec.ofNat 32 (i 0).val) + 1 * 0 = (i 0).val
    rw [BitVec.toNat_ofNat]; omega

/-- The difference of the two softmaxes times the values, before the norm. -/
def mixed (bias : Vec F S256x2048 .f32) (x1 x2 x3 x4 : Vec F S1x64 .f32) (x5 : Vec F S1x256x128 .bf16) (x6 x7 : Vec F S1x2048x128 .bf16) :
    FVec F S256x128 .f32 :=
  k0_pay7 (k0_pay3 x1 x2 x3 x4) (k0_pay4 x5) (k0_pay5 x6) k0_pay6 (Scalar.ofBits .bf16 0x0000#16) bias bias x7

/-- The block a grid point writes, from the bias in the scratch and the point's input blocks. -/
def outBlock (bias : Vec F S256x2048 .f32) (x1 x2 x3 x4 : Vec F S1x64 .f32) (x5 : Vec F S1x256x128 .bf16) (x6 x7 : Vec F S1x2048x128 .bf16)
    (x8 : Vec F S1x128 .f32) : FVec F S1x256x128 .bf16 :=
  k0_pay1 (mixed bias x1 x2 x3 x4 x5 x6 x7) (k0_pay8 x8)
    (k0_pay9 (k0_pay3 x1 x2 x3 x4) (k0_pay4 x5) (k0_pay5 x6) k0_pay6 (Scalar.ofBits .bf16 0x0000#16) bias bias x7)
    (Scalar.ofBits .f32 0x43000000#32)

/-- A point that finds the bias in the scratch writes the block made from it. -/
theorem block_later (c : Dev nD) (i : grid0.Coords) (arg3 : Memref sig .tc .smem S4 .f32) (h3 : arg3.IsWhole)
    (arg4 : Memref sig .tc .vmem S1x64 .f32) (h4 : arg4.IsWhole) (arg5 : Memref sig .tc .vmem S1x64 .f32) (h5 : arg5.IsWhole)
    (arg6 : Memref sig .tc .vmem S1x64 .f32) (h6 : arg6.IsWhole) (arg7 : Memref sig .tc .vmem S1x64 .f32) (h7 : arg7.IsWhole)
    (arg8 : Memref sig .tc .vmem S1x256x128 .bf16) (h8 : arg8.IsWhole) (arg9 : Memref sig .tc .vmem S1x2048x128 .bf16) (h9 : arg9.IsWhole)
    (arg10 : Memref sig .tc .vmem S1x2048x128 .bf16) (h10 : arg10.IsWhole) (arg11 : Memref sig .tc .vmem S1x128 .f32) (h11 : arg11.IsWhole)
    (arg12 : Memref sig .tc .vmem S1x256x128 .bf16) (h12 : arg12.IsWhole) (arg13 : Memref sig .tc .vmem S256x2048 .f32) (h13 : arg13.IsWhole)
    (hc : ¬cond0_0 i)
    (x0 : Vec F S4 .f32) (x1 x2 x3 x4 : Vec F S1x64 .f32) (x5 : Vec F S1x256x128 .bf16) (x6 x7 : Vec F S1x2048x128 .bf16) (x8 : Vec F S1x128 .f32) (xs : Vec F S256x2048 .f32) :
    out0_B_9 c i arg3 h3 arg4 h4 arg5 h5 arg6 h6 arg7 h7 arg8 h8 arg9 h9 arg10 h10 arg11 h11 arg12 h12 arg13 h13 hc x0 x1 x2 x3 x4 x5 x6 x7 x8 xs = outBlock xs x1 x2 x3 x4 x5 x6 x7 x8 := by
  unfold out0_B_9
  rw [View.read_writes_eq_canon _ _ _ (cover0_B_9 c i arg3 h3 arg4 h4 arg5 h5 arg6 h6 arg7 h7 arg8 h8 arg9 h9 arg10 h10 arg11 h11 arg12 h12 arg13 h13 hc x0 x1 x2 x3 x4 x5 x6 x7 x8 xs)]
  unfold kernelRun0_B
  dsimp only
  sl_unfold_words
  rw [View.canon_unit_zero zero_offsets3]
  simp only [View.readAt_eq_ld, h4.read_unread, h5.read_unread, h6.read_unread, h7.read_unread, h8.read_unread, h9.read_unread,
    h10.read_unread, h11.read_unread, h13.read_unread, View.ld_unit_zero (S := S1x64) zero_offsets2, View.ld_unit_zero (S := S1x128) zero_offsets2,
    View.ld_unit_zero (S := S256x2048) zero_offsets2, View.ld_unit_zero (S := S1x256x128) zero_offsets3, View.ld_unit_zero (S := S1x2048x128) zero_offsets3]
  rfl

/-- The first point of a row of points computes the bias … -/
theorem bias_first (c : Dev nD) (i : grid0.Coords) (arg3 : Memref sig .tc .smem S4 .f32) (h3 : arg3.IsWhole)
    (arg4 : Memref sig .tc .vmem S1x64 .f32) (h4 : arg4.IsWhole) (arg5 : Memref sig .tc .vmem S1x64 .f32) (h5 : arg5.IsWhole)
    (arg6 : Memref sig .tc .vmem S1x64 .f32) (h6 : arg6.IsWhole) (arg7 : Memref sig .tc .vmem S1x64 .f32) (h7 : arg7.IsWhole)
    (arg8 : Memref sig .tc .vmem S1x256x128 .bf16) (h8 : arg8.IsWhole) (arg9 : Memref sig .tc .vmem S1x2048x128 .bf16) (h9 : arg9.IsWhole)
    (arg10 : Memref sig .tc .vmem S1x2048x128 .bf16) (h10 : arg10.IsWhole) (arg11 : Memref sig .tc .vmem S1x128 .f32) (h11 : arg11.IsWhole)
    (arg12 : Memref sig .tc .vmem S1x256x128 .bf16) (h12 : arg12.IsWhole) (arg13 : Memref sig .tc .vmem S256x2048 .f32) (h13 : arg13.IsWhole)
    (hc : cond0_0 i)
    (x0 : Vec F S4 .f32) (x1 x2 x3 x4 : Vec F S1x64 .f32) (x5 : Vec F S1x256x128 .bf16) (x6 x7 : Vec F S1x2048x128 .bf16) (x8 : Vec F S1x128 .f32) :
    sout0_A_0 c i arg3 h3 arg4 h4 arg5 h5 arg6 h6 arg7 h7 arg8 h8 arg9 h9 arg10 h10 arg11 h11 arg12 h12 arg13 h13 hc x0 x1 x2 x3 x4 x5 x6 x7 x8 = k0_pay2 i (slopeAt i x0) := by
  unfold sout0_A_0
  rw [View.read_writes_eq_canon _ _ _ (scover0_A_0 c i arg3 h3 arg4 h4 arg5 h5 arg6 h6 arg7 h7 arg8 h8 arg9 h9 arg10 h10 arg11 h11 arg12 h12 arg13 h13 hc x0 x1 x2 x3 x4 x5 x6 x7 x8)]
  unfold kernelRun0_A
  dsimp only
  sl_unfold_words
  rw [View.canon_unit_zero zero_offsets2]
  simp only [View.readAt_eq_ld, h3.read_unread]
  exact congrArg (k0_pay2 i) (slope_load i x0 _ _)

/-- … and writes the block made from it. -/
theorem block_first (c : Dev nD) (i : grid0.Coords) (arg3 : Memref sig .tc .smem S4 .f32) (h3 : arg3.IsWhole)
    (arg4 : Memref sig .tc .vmem S1x64 .f32) (h4 : arg4.IsWhole) (arg5 : Memref sig .tc .vmem S1x64 .f32) (h5 : arg5.IsWhole)
    (arg6 : Memref sig .tc .vmem S1x64 .f32) (h6 : arg6.IsWhole) (arg7 : Memref sig .tc .vmem S1x64 .f32) (h7 : arg7.IsWhole)
    (arg8 : Memref sig .tc .vmem S1x256x128 .bf16) (h8 : arg8.IsWhole) (arg9 : Memref sig .tc .vmem S1x2048x128 .bf16) (h9 : arg9.IsWhole)
    (arg10 : Memref sig .tc .vmem S1x2048x128 .bf16) (h10 : arg10.IsWhole) (arg11 : Memref sig .tc .vmem S1x128 .f32) (h11 : arg11.IsWhole)
    (arg12 : Memref sig .tc .vmem S1x256x128 .bf16) (h12 : arg12.IsWhole) (arg13 : Memref sig .tc .vmem S256x2048 .f32) (h13 : arg13.IsWhole)
    (hc : cond0_0 i)
    (x0 : Vec F S4 .f32) (x1 x2 x3 x4 : Vec F S1x64 .f32) (x5 : Vec F S1x256x128 .bf16) (x6 x7 : Vec F S1x2048x128 .bf16) (x8 : Vec F S1x128 .f32) :
    out0_A_9 c i arg3 h3 arg4 h4 arg5 h5 arg6 h6 arg7 h7 arg8 h8 arg9 h9 arg10 h10 arg11 h11 arg12 h12 arg13 h13 hc x0 x1 x2 x3 x4 x5 x6 x7 x8 = outBlock (k0_pay2 i (slopeAt i x0)) x1 x2 x3 x4 x5 x6 x7 x8 := by
  unfold out0_A_9
  rw [View.read_writes_eq_canon _ _ _ (cover0_A_9 c i arg3 h3 arg4 h4 arg5 h5 arg6 h6 arg7 h7 arg8 h8 arg9 h9 arg10 h10 arg11 h11 arg12 h12 arg13 h13 hc x0 x1 x2 x3 x4 x5 x6 x7 x8)]
  unfold kernelRun0_A
  dsimp only
  sl_unfold_words
  rw [View.canon_unit_zero zero_offsets3, View.readCov_unit_zero (S := S256x2048) _ zero_offsets2]
  simp only [View.readAt_eq_ld, h3.read_unread, h4.read_unread, h5.read_unread, h6.read_unread, h7.read_unread, h8.read_unread, h9.read_unread,
    h10.read_unread, h11.read_unread, View.ld_unit_zero (S := S1x64) zero_offsets2, View.ld_unit_zero (S := S1x128) zero_offsets2,
    View.ld_unit_zero (S := S1x256x128) zero_offsets3, View.ld_unit_zero (S := S1x2048x128) zero_offsets3]
  exact congrArg (fun s => outBlock (k0_pay2 i s) x1 x2 x3 x4 x5 x6 x7 x8) (slope_load i x0 _ _)

end Cert.KernelIdeal.Attention

end
-- ==== Proof.Attention.Array.lean ====
/- The attention kernel's result array at an index: the grid point that writes it, the blocks that point reads, and the operands the host prepares. -/
module

public import proofs.«01_k».proof.Proof.Attention.Block

@[expose] public section

noncomputable section

namespace Cert.KernelIdeal.Attention

open Cert.KernelIdeal Cert.KernelIdeal.Gen Cert.KernelIdeal.Value Idealize.ShloMosaic Idealize.ShloMosaic.TcCoe Idealize.SL.Sem

variable (m : (ℓ : Loc nD τ sig) → Buf (Elt Ideal) ℓ) (c : Dev nD)

/-! ## The grid: point `t` is head `t / 128`, query tile `t / 16 % 8`, sequence `t % 16` -/

theorem point_lt (t : Fin cfg0.N) : t.val < 512 := lt_of_lt_of_eq t.isLt N_0
theorem coords_head (t : Fin cfg0.N) : (grid0.coords t 0).val = t.val / 128 := by
  have e : (grid0.coords t 0).val = t.val / 128 % 4 := Pipeline.Grid.coords_val t 0 (by decide) rfl
  have := point_lt t
  omega
theorem coords_tile (t : Fin cfg0.N) : (grid0.coords t 1).val = t.val / 16 % 8 := Pipeline.Grid.coords_val t 1 (by decide) rfl

/-! ## The blocks a point reads -/

theorem index_slopes : ∀ t : Fin cfg0.N, win0_0.index t (0 : Fin 1) = 0 := (by decide +kernel : ∀ t : Fin grid0.N, _)
theorem index_row1 : ∀ t : Fin cfg0.N, win0_1.index t (0 : Fin 2) = 0 ∧ win0_1.index t (1 : Fin 2) = 0 := (by decide +kernel : ∀ t : Fin grid0.N, _)
theorem index_row2 : ∀ t : Fin cfg0.N, win0_2.index t (0 : Fin 2) = 0 ∧ win0_2.index t (1 : Fin 2) = 0 := (by decide +kernel : ∀ t : Fin grid0.N, _)
theorem index_row3 : ∀ t : Fin cfg0.N, win0_3.index t (0 : Fin 2) = 0 ∧ win0_3.index t (1 : Fin 2) = 0 := (by decide +kernel : ∀ t : Fin grid0.N, _)
theorem index_row4 : ∀ t : Fin cfg0.N, win0_4.index t (0 : Fin 2) = 0 ∧ win0_4.index t (1 : Fin 2) = 0 := (by decide +kernel : ∀ t : Fin grid0.N, _)
theorem index_queries : ∀ t : Fin cfg0.N, win0_5.index t (0 : Fin 3) = t.val % 16 ∧ win0_5.index t (1 : Fin 3) = t.val / 16 % 8
    ∧ win0_5.index t (2 : Fin 3) = t.val / 128 := (by decide +kernel : ∀ t : Fin grid0.N, _)
theorem index_keys : ∀ t : Fin cfg0.N, win0_6.index t (0 : Fin 3) = t.val % 16 ∧ win0_6.index t (1 : Fin 3) = 0
    ∧ win0_6.index t (2 : Fin 3) = t.val / 128 := (by decide +kernel : ∀ t : Fin grid0.N, _)
theorem index_values : ∀ t : Fin cfg0.N, win0_7.index t (0 : Fin 3) = t.val % 16 ∧ win0_7.index t (1 : Fin 3) = 0
    ∧ win0_7.index t (2 : Fin 3) = t.val / 128 := (by decide +kernel : ∀ t : Fin grid0.N, _)
theorem index_scale : ∀ t : Fin cfg0.N, win0_8.index t (0 : Fin 2) = 0 ∧ win0_8.index t (1 : Fin 2) = 0 := (by decide +kernel : ∀ t : Fin grid0.N, _)

theorem slopes_read (t : Fin cfg0.N) (h : Fin 4) : (iblk m c 0 t : Vec Ideal S4 .f32) (ix1 h) = V m c main_cst (ix1 h) := by
  unfold iblk
  rw [View.read_apply]
  show V m c main_cst _ = V m c main_cst _
  congr 1
  funext a
  apply Fin.ext
  match a with
  | ⟨0, _⟩ => show win0_0.index t 0 * 4 + 1 * h.val = h.val; rw [index_slopes t]; omega

theorem row1_read (t : Fin cfg0.N) (x : Fin 64) : (iblk m c 1 t : Vec Ideal S1x64 .f32) (ix2 0 x) = V m c main_v11 (ix2 0 x) := by
  unfold iblk
  rw [View.read_apply]
  show V m c main_v11 _ = V m c main_v11 _
  congr 1
  funext a
  apply Fin.ext
  match a with
  | ⟨0, _⟩ => show win0_1.index t 0 * 1 + 1 * 0 = 0; rw [(index_row1 t).1]
  | ⟨1, _⟩ => show win0_1.index t 1 * 64 + 1 * x.val = x.val; rw [(index_row1 t).2]; omega

theorem row2_read (t : Fin cfg0.N) (x : Fin 64) : (iblk m c 2 t : Vec Ideal S1x64 .f32) (ix2 0 x) = V m c main_v12 (ix2 0 x) := by
  unfold iblk
  rw [View.read_apply]
  show V m c main_v12 _ = V m c main_v12 _
  congr 1
  funext a
  apply Fin.ext
  match a with
  | ⟨0, _⟩ => show win0_2.index t 0 * 1 + 1 * 0 = 0; rw [(index_row2 t).1]
  | ⟨1, _⟩ => show win0_2.index t 1 * 64 + 1 * x.val = x.val; rw [(index_row2 t).2]; omega

theorem row3_read (t : Fin cfg0.N) (x : Fin 64) : (iblk m c 3 t : Vec Ideal S1x64 .f32) (ix2 0 x) = V m c main_v13 (ix2 0 x) := by
  unfold iblk
  rw [View.read_apply]
  show V m c main_v13 _ = V m c main_v13 _
  congr 1
  funext a
  apply Fin.ext
  match a with
  | ⟨0, _⟩ => show win0_3.index t 0 * 1 + 1 * 0 = 0; rw [(index_row3 t).1]
  | ⟨1, _⟩ => show win0_3.index t 1 * 64 + 1 * x.val = x.val; rw [(index_row3 t).2]; omega

theorem row4_read (t : Fin cfg0.N) (x : Fin 64) : (iblk m c 4 t : Vec Ideal S1x64 .f32) (ix2 0 x) = V m c main_v14 (ix2 0 x) := by
  unfold iblk
  rw [View.read_apply]
  show V m c main_v14 _ = V m c main_v14 _
  congr 1
  funext a
  apply Fin.ext
  match a with
  | ⟨0, _⟩ => show win0_4.index t 0 * 1 + 1 * 0 = 0; rw [(index_row4 t).1]
  | ⟨1, _⟩ => show win0_4.index t 1 * 64 + 1 * x.val = x.val; rw [(index_row4 t).2]; omega

theorem queries_read (t : Fin cfg0.N) (r : Fin 256) (d : Fin 128) :
    (iblk m c 5 t : Vec Ideal S1x256x128 .bf16) (ix3 0 r d)
      = V m c main_v8 (ix3 (⟨t.val % 16, by omega⟩ : Fin 16) (⟨t.val / 16 % 8 * 256 + r.val, by omega⟩ : Fin 2048)
          (⟨t.val / 128 * 128 + d.val, by have := point_lt t; omega⟩ : Fin 512)) := by
  unfold iblk
  rw [View.read_apply]
  show V m c main_v8 _ = V m c main_v8 _
  congr 1
  funext a
  apply Fin.ext
  obtain ⟨e0, e1, e2⟩ := index_queries t
  match a with
  | ⟨0, _⟩ => show win0_5.index t 0 * 1 + 1 * 0 = t.val % 16; rw [e0]; omega
  | ⟨1, _⟩ => show win0_5.index t 1 * 256 + 1 * r.val = t.val / 16 % 8 * 256 + r.val; rw [e1]; omega
  | ⟨2, _⟩ => show win0_5.index t 2 * 128 + 1 * d.val = t.val / 128 * 128 + d.val; rw [e2]; omega

theorem keys_read (t : Fin cfg0.N) (x : Fin 2048) (d : Fin 128) :
    (iblk m c 6 t : Vec Ideal S1x2048x128 .bf16) (ix3 0 x d)
      = V m c main_v9 (ix3 (⟨t.val % 16, by omega⟩ : Fin 16) x (⟨t.val / 128 * 128 + d.val, by have := point_lt t; omega⟩ : Fin 512)) := by
  unfold iblk
  rw [View.read_apply]
  show V m c main_v9 _ = V m c main_v9 _
  congr 1
  funext a
  apply Fin.ext
  obtain ⟨e0, e1, e2⟩ := index_keys t
  match a with
  | ⟨0, _⟩ => show win0_6.index t 0 * 1 + 1 * 0 = t.val % 16; rw [e0]; omega
  | ⟨1, _⟩ => show win0_6.index t 1 * 2048 + 1 * x.val = x.val; rw [e1]; omega
  | ⟨2, _⟩ => show win0_6.index t 2 * 128 + 1 * d.val = t.val / 128 * 128 + d.val; rw [e2]; omega

theorem values_read (t : Fin cfg0.N) (x : Fin 2048) (d : Fin 128) :
    (iblk m c 7 t : Vec Ideal S1x2048x128 .bf16) (ix3 0 x d)
      = V m c main_v10 (ix3 (⟨t.val % 16, by omega⟩ : Fin 16) x (⟨t.val / 128 * 128 + d.val, by have := point_lt t; omega⟩ : Fin 512)) := by
  unfold iblk
  rw [View.read_apply]
  show V m c main_v10 _ = V m c main_v10 _
  congr 1
  funext a
  apply Fin.ext
  obtain ⟨e0, e1, e2⟩ := index_values t
  match a with
  | ⟨0, _⟩ => show win0_7.index t 0 * 1 + 1 * 0 = t.val % 16; rw [e0]; omega
  | ⟨1, _⟩ => show win0_7.index t 1 * 2048 + 1 * x.val = x.val; rw [e1]; omega
  | ⟨2, _⟩ => show win0_7.index t 2 * 128 + 1 * d.val = t.val / 128 * 128 + d.val; rw [e2]; omega

theorem scale_read (t : Fin cfg0.N) (d : Fin 128) : (iblk m c 8 t : Vec Ideal S1x128 .f32) (ix2 0 d) = V m c main_v15 (ix2 0 d) := by
  unfold iblk
  rw [View.read_apply]
  show V m c main_v15 _ = V m c main_v15 _
  congr 1
  funext a
  apply Fin.ext
  match a with
  | ⟨0, _⟩ => show win0_8.index t 0 * 1 + 1 * 0 = 0; rw [(index_scale t).1]
  | ⟨1, _⟩ => show win0_8.index t 1 * 128 + 1 * d.val = d.val; rw [(index_scale t).2]; omega

/-! ## The operands the host prepares -/

/-- The queries, keys and values as launched. -/
def argQueries : FVec Ideal S32768x512 .f32 := m (c.tc.loc main_arg0)
def argKeys : FVec Ideal S32768x512 .f32 := m (c.tc.loc main_arg1)
def argValues : FVec Ideal S32768x512 .f32 := m (c.tc.loc main_arg2)

theorem host_slopes : V m c main_cst = (fun i => FloatOps.ofBits .f32 (lit0 (S4.rowMajor i)) : FVec Ideal S4 .f32) := by
  show StableHlo.after hostOps0 (fun b => m (c, b)) (Proc.devRef .tc main_cst) = _
  unfold hostOps0
  after_results
  rfl

theorem host_row1 (x : Fin 64) : V m c main_v11 (ix2 0 x) = m (c.tc.loc main_arg3) (ix1 x) := by
  have e : V m c main_v11 = shapeCast S1x64 (m (c.tc.loc main_arg3) : Vec Ideal S64 .f32) shapeCasts_S64_S1x64 := by
    show StableHlo.after hostOps0 (fun b => m (c, b)) (Proc.devRef .tc main_v11) = _
    unfold hostOps0
    after_results
    rfl
  rw [e]
  pointwise

theorem host_row2 (x : Fin 64) : V m c main_v12 (ix2 0 x) = m (c.tc.loc main_arg4) (ix1 x) := by
  have e : V m c main_v12 = shapeCast S1x64 (m (c.tc.loc main_arg4) : Vec Ideal S64 .f32) shapeCasts_S64_S1x64 := by
    show StableHlo.after hostOps0 (fun b => m (c, b)) (Proc.devRef .tc main_v12) = _
    unfold hostOps0
    after_results
    rfl
  rw [e]
  pointwise

theorem host_row3 (x : Fin 64) : V m c main_v13 (ix2 0 x) = m (c.tc.loc main_arg5) (ix1 x) := by
  have e : V m c main_v13 = shapeCast S1x64 (m (c.tc.loc main_arg5) : Vec Ideal S64 .f32) shapeCasts_S64_S1x64 := by
    show StableHlo.after hostOps0 (fun b => m (c, b)) (Proc.devRef .tc main_v13) = _
    unfold hostOps0
    after_results
    rfl
  rw [e]
  pointwise

theorem host_row4 (x : Fin 64) : V m c main_v14 (ix2 0 x) = m (c.tc.loc main_arg6) (ix1 x) := by
  have e : V m c main_v14 = shapeCast S1x64 (m (c.tc.loc main_arg6) : Vec Ideal S64 .f32) shapeCasts_S64_S1x64 := by
    show StableHlo.after hostOps0 (fun b => m (c, b)) (Proc.devRef .tc main_v14) = _
    unfold hostOps0
    after_results
    rfl
  rw [e]
  pointwise

theorem host_scale (x : Fin 128) : V m c main_v15 (ix2 0 x) = m (c.tc.loc main_arg7) (ix1 x) := by
  have e : V m c main_v15 = shapeCast S1x128 (m (c.tc.loc main_arg7) : Vec Ideal S128 .f32) shapeCasts_S128_S1x128 := by
    show StableHlo.after hostOps0 (fun b => m (c, b)) (Proc.devRef .tc main_v15) = _
    unfold hostOps0
    after_results
    rfl
  rw [e]
  pointwise

/-- The queries the kernel is given: scaled, over the logarithm of two. -/
theorem host_queries (b : Fin 16) (n : Fin 2048) (d : Fin 512) :
    (V m c main_v8 : FVec Ideal S16x2048x512 .bf16) (ix3 b n d)
      = Ideal.div (argQueries m c (ix2 ⟨b.val * 2048 + n.val, by omega⟩ d) * Ideal.ofBits .f32 0x3E000000#32)
          (Ideal.log (Ideal.ofBits .f32 0x40000000#32)) := by
  have e : (V m c main_v8 : FVec Ideal S16x2048x512 .bf16) = shapeCast S16x2048x512 (truncf .bf16 (Host.divf (mulf (argQueries m c)
      (broadcastInDim S32768x512 ![] bcast_S_S32768x512 (constant S_ .f32 0x3E000000#32)))
      (broadcastInDim S32768x512 ![] bcast_S_S32768x512 (Host.log (constant S_ .f32 0x40000000#32)))) bitsLt_bf16_f32) shapeCasts_S32768x512_S16x2048x512 := by
    show StableHlo.after hostOps0 (fun b => m (c, b)) (Proc.devRef .tc main_v8) = _
    unfold hostOps0
    after_results
    rfl
  rw [e]
  pointwise

theorem host_keys (b : Fin 16) (n : Fin 2048) (d : Fin 512) :
    (V m c main_v9 : FVec Ideal S16x2048x512 .bf16) (ix3 b n d) = argKeys m c (ix2 ⟨b.val * 2048 + n.val, by omega⟩ d) := by
  have e : (V m c main_v9 : FVec Ideal S16x2048x512 .bf16) = shapeCast S16x2048x512 (truncf .bf16 (argKeys m c) bitsLt_bf16_f32)
      shapeCasts_S32768x512_S16x2048x512 := by
    show StableHlo.after hostOps0 (fun b => m (c, b)) (Proc.devRef .tc main_v9) = _
    unfold hostOps0
    after_results
    rfl
  rw [e]
  pointwise

theorem host_values (b : Fin 16) (n : Fin 2048) (d : Fin 512) :
    (V m c main_v10 : FVec Ideal S16x2048x512 .bf16) (ix3 b n d) = argValues m c (ix2 ⟨b.val * 2048 + n.val, by omega⟩ d) := by
  have e : (V m c main_v10 : FVec Ideal S16x2048x512 .bf16) = shapeCast S16x2048x512 (truncf .bf16 (argValues m c) bitsLt_bf16_f32)
      shapeCasts_S32768x512_S16x2048x512 := by
    show StableHlo.after hostOps0 (fun b => m (c, b)) (Proc.devRef .tc main_v10) = _
    unfold hostOps0
    after_results
    rfl
  rw [e]
  pointwise

/-! ## The bias is computed once per head and tile and stays in the scratch -/

/-- The bias of point `t`'s head and query tile. -/
def biasAt (t : Fin cfg0.N) : FVec Ideal S256x2048 .f32 := k0_pay2 (grid0.coords t) (slopeAt (grid0.coords t) (iblk m c 0 t))

/-- It is the same at two points of the same head and tile. -/
theorem biasAt_congr (t u : Fin cfg0.N) (h : t.val / 16 = u.val / 16) : biasAt m c t = biasAt m c u := by
  have hs : slopeAt (grid0.coords t) (iblk m c 0 t) = slopeAt (grid0.coords u) (iblk m c 0 u) := by
    unfold slopeAt
    rw [slopes_read, slopes_read]
    congr 2
    apply Fin.ext
    show (grid0.coords t 0).val = (grid0.coords u 0).val
    rw [coords_head, coords_head]
    omega
  unfold biasAt
  rw [hs]
  unfold k0_pay2
  rw [show (grid0.coords t 1).val = (grid0.coords u 1).val by rw [coords_tile, coords_tile, h]]

theorem scratch_eq : ∀ (n : ℕ) (hn : n < cfg0.N), (outsAt0 m c n hn).2 = biasAt m c ⟨n, hn⟩
  | 0, hn => by
    rw [outsAt0_A m c ⟨0, hn⟩ rfl]
    dsimp only
    rw [bias_first]
    rfl
  | n + 1, hn => by
    by_cases h0 : (n + 1) % 16 = 0
    · rw [outsAt0_A m c ⟨n + 1, hn⟩ h0]
      dsimp only
      rw [bias_first]
      rfl
    · rw [outsAt0_B m c ⟨n + 1, hn⟩ h0]
      show (outsAt0 m c n _).2 = _
      rw [scratch_eq n (by omega)]
      exact biasAt_congr m c _ _ (by show n / 16 = (n + 1) / 16; omega)

/-- What point `t` writes. -/
theorem block_eq (t : Fin cfg0.N) :
    (outsAt0 m c t.val t.isLt).1
      = outBlock (biasAt m c t) (iblk m c 1 t) (iblk m c 2 t) (iblk m c 3 t) (iblk m c 4 t) (iblk m c 5 t) (iblk m c 6 t) (iblk m c 7 t) (iblk m c 8 t) := by
  by_cases h0 : t.val % 16 = 0
  · rw [outsAt0_A m c t h0]
    dsimp only
    rw [block_first]
    rfl
  · rw [outsAt0_B m c t h0]
    dsimp only
    rw [block_later, scratch_eq]
    rw [biasAt_congr m c ⟨t.val - 1, _⟩ t (by show (t.val - 1) / 16 = t.val / 16; omega)]

/-- The result array at an index. -/
theorem array_apply (b : Fin 16) (n : Fin 2048) (d : Fin 512) (t : Fin cfg0.N) (ht : t.val = b.val + 16 * (n.val / 256) + 128 * (d.val / 128)) :
    G9 m c (ix3 b n d)
      = outBlock (biasAt m c t) (iblk m c 1 t) (iblk m c 2 t) (iblk m c 3 t) (iblk m c 4 t) (iblk m c 5 t) (iblk m c 6 t) (iblk m c 7 t) (iblk m c 8 t)
          (ix3 0 ⟨n.val % 256, by omega⟩ ⟨d.val % 128, by omega⟩) := by
  have hp : pt9Of (ix3 b n d) = t.val := by
    show 1 * (b.val / 1 - 0) + 16 * (n.val / 256 - 0) + 128 * (d.val / 128 - 0) = t.val
    omega
  have hl : loc9Of (ix3 b n d) = ix3 0 ⟨n.val % 256, by omega⟩ ⟨d.val % 128, by omega⟩ := by
    funext a
    apply Fin.ext
    match a with
    | ⟨0, _⟩ => show b.val % 1 = 0; omega
    | ⟨1, _⟩ => rfl
    | ⟨2, _⟩ => rfl
  unfold G9
  rw [dif_pos (by rw [hp]; exact t.isLt), hl, fold0_congr m c _ _ _ (by rw [Nat.zero_add]; exact t.isLt) hp, ← outsAt0_sweep m c t.val t.isLt, block_eq]

end Cert.KernelIdeal.Attention

end
-- ==== Proof.Attention.Softmax.lean ====
/- The arithmetic of the two sides, free of the programs: a softmax with base-two exponentials of rescaled scores is the softmax with natural exponentials. -/
module

public import Idealize.ShloMosaic.Lib.Pointwise
public import Idealize.ShloMosaic.Lib.IdealHost

@[expose] public section

noncomputable section

namespace Attention

open Idealize.ShloMosaic

/-! ## Constants -/

theorem neg_inf : Ideal.ofBits .f32 4286578688#32 = ⊥ := by simp [Ideal.ofBits, Ideal.ieee]
theorem eighth : Ideal.ofBits .f32 1040187392#32 = ((1 / 8 : ℝ) : EReal) := by
  simp [Ideal.ofBits, Ideal.ieee]; norm_num; rw [← EReal.coe_mul]; norm_num
theorem two : Ideal.ofBits .f32 1073741824#32 = ((2 : ℝ) : EReal) := by
  simp [Ideal.ofBits, Ideal.ieee]; norm_num; rw [← EReal.coe_mul]; norm_num
theorem log_two : Ideal.log (Ideal.ofBits .f32 1073741824#32) = ((Real.log 2 : ℝ) : EReal) := by
  rw [two]; show (if (2 : ℝ) ≤ 0 then (⊥ : EReal) else (Real.log 2 : EReal)) = _; norm_num

/-- A query scaled and divided by the logarithm of two. -/
theorem scaled_query (x : ℝ) :
    Ideal.div ((x : EReal) * Ideal.ofBits .f32 1040187392#32) (Ideal.log (Ideal.ofBits .f32 1073741824#32))
      = ((x * (1 / 8) * (Real.log 2)⁻¹ : ℝ) : EReal) := by
  have h2 : Real.log 2 ≠ 0 := (Real.log_pos (by norm_num)).ne'
  rw [log_two, eighth, Ideal.div, if_neg (by exact_mod_cast h2), ← EReal.coe_mul, ← EReal.coe_inv, ← EReal.coe_mul]

/-- A sum of reals is a real. -/
theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

/-! ## A row of real scores -/

variable {n : ℕ} [NeZero n]

instance : Nonempty (Fin n) := ⟨0⟩

/-- The maximum of a row of reals is a real. -/
theorem fold_max_coe (s : Fin n → ℝ) :
    Finset.fold max (⊥ : EReal) (fun x => ((s x : ℝ) : EReal)) Finset.univ = ((Finset.univ.sup' Finset.univ_nonempty s : ℝ) : EReal) := by
  have h : Finset.fold max (⊥ : EReal) (fun x => ((s x : ℝ) : EReal)) Finset.univ = Finset.univ.sup (fun x => ((s x : ℝ) : EReal)) := rfl
  rw [h, ← Finset.sup'_eq_sup Finset.univ_nonempty]
  exact (Finset.comp_sup'_eq_sup'_comp Finset.univ_nonempty (fun r : ℝ => (r : EReal)) (fun a b => by
    exact (EReal.coe_strictMono.monotone).map_sup a b)).symm

/-- Scaling by a positive number commutes with the maximum. -/
theorem sup_scale (c : ℝ) (hc : 0 < c) (s : Fin n → ℝ) :
    Finset.univ.sup' Finset.univ_nonempty (fun x => c * s x) = c * Finset.univ.sup' Finset.univ_nonempty s :=
  (Finset.comp_sup'_eq_sup'_comp Finset.univ_nonempty (fun r : ℝ => c * r) (fun a b => by
    exact (show Monotone fun r : ℝ => c * r from fun _ _ h => mul_le_mul_of_nonneg_left h hc.le).map_sup a b)).symm

/-- Two to the power of a score over log 2, less the row's maximum: the exponential of the score less the row's maximum. -/
theorem exp2_shift (s : Fin n → ℝ) (x : Fin n) :
    Ideal.exp2 ((((Real.log 2)⁻¹ * s x : ℝ) : EReal) - Finset.fold max (⊥ : EReal) (fun x => (((Real.log 2)⁻¹ * s x : ℝ) : EReal)) Finset.univ)
      = Ideal.exp ((s x : EReal) - max ⊥ (Finset.fold max (⊥ : EReal) (fun x => ((s x : ℝ) : EReal)) Finset.univ)) := by
  have h2 : 0 < Real.log 2 := Real.log_pos (by norm_num)
  rw [fold_max_coe (fun x => (Real.log 2)⁻¹ * s x), fold_max_coe s, sup_scale _ (inv_pos.mpr h2), max_eq_right bot_le, ← EReal.coe_sub, ← EReal.coe_sub]
  show ((Real.rpow 2 _ : ℝ) : EReal) = ((Real.exp _ : ℝ) : EReal)
  congr 1
  rw [Real.rpow_eq_pow, Real.rpow_def_of_pos (by norm_num)]
  congr 1
  field_simp

/-- Such a row of exponentials has a sum that is not zero. -/
theorem exp_sum_ne_zero (s : Fin n → ℝ) :
    (∑ x : Fin n, Ideal.exp ((s x : EReal) - max ⊥ (Finset.fold max (⊥ : EReal) (fun x => ((s x : ℝ) : EReal)) Finset.univ))) ≠ 0 := by
  rw [fold_max_coe s, max_eq_right bot_le]
  generalize Finset.univ.sup' Finset.univ_nonempty s = M
  have e : ∀ x : Fin n, Ideal.exp ((s x : EReal) - (M : EReal)) = ((Real.exp (s x - M) : ℝ) : EReal) := fun x => by
    rw [← EReal.coe_sub]; rfl
  simp only [e]
  rw [← coe_sum]
  have : 0 < ∑ x : Fin n, Real.exp (s x - M) := Finset.sum_pos (fun x _ => Real.exp_pos _) Finset.univ_nonempty
  exact_mod_cast this.ne'

/-- A difference of two normalised rows, written with reciprocals of the rows' sums and written with quotients. -/
theorem weights_eq (a b A B l : EReal) (hA : A ≠ 0) (hB : B ≠ 0) :
    a * Ideal.div 1 A - b * Ideal.div l B = Ideal.div a A - l * Ideal.div b B := by
  rw [Ideal.mul_one_div hA, show Ideal.div l B = l * B⁻¹ from if_neg hB, show Ideal.div b B = b * B⁻¹ from if_neg hB, mul_left_comm]

/-! ## The distance of two positions -/

theorem ofNat_toInt (a : ℕ) (ha : a < 4096) : (BitVec.ofNat 32 a).toInt = (a : ℤ) := by
  rw [BitVec.toInt_eq_toNat_of_lt (by rw [BitVec.toNat_ofNat]; omega), BitVec.toNat_ofNat]
  omega

theorem absi_toInt (a b : ℕ) (ha : a < 4096) (hb : b < 4096) :
    (IntOp.absi (BitVec.ofNat 32 a - BitVec.ofNat 32 b)).toInt = |(a : ℤ) - (b : ℤ)| := by
  have h : (BitVec.ofNat 32 a - BitVec.ofNat 32 b).toInt = (a : ℤ) - (b : ℤ) := by
    rw [BitVec.toInt_sub, ofNat_toInt a ha, ofNat_toInt b hb]
    simp only [Int.bmod]
    omega
  unfold IntOp.absi
  split
  · next hm =>
    rw [BitVec.msb_eq_toInt, decide_eq_true_eq, h] at hm
    rw [BitVec.toInt_neg, h, abs_of_neg hm]
    simp only [Int.bmod]
    omega
  · next hm =>
    rw [BitVec.msb_eq_toInt, decide_eq_true_eq, h] at hm
    rw [h, abs_of_nonneg (by omega)]

/-- The reference's distance. -/
theorem distance_real (a b : ℕ) (ha : a < 4096) (hb : b < 4096) :
    FloatOps.absf (FloatOps.sitofp .f32 (BitVec.ofNat 32 a) - FloatOps.sitofp .f32 (BitVec.ofNat 32 b) : Ideal .f32)
      = ((|(a : ℝ) - (b : ℝ)| : ℝ) : EReal) := by
  have e : ∀ k : ℕ, k < 4096 → (FloatOps.sitofp .f32 (BitVec.ofNat 32 k) : Ideal .f32) = (((k : ℝ) : ℝ) : EReal) := fun k hk => by
    show (((BitVec.ofNat 32 k).toInt : ℝ) : EReal) = _
    rw [ofNat_toInt k hk]; norm_cast
  rw [e a ha, e b hb]
  show max (((a : ℝ) : EReal) - ((b : ℝ) : EReal)) (-(((a : ℝ) : EReal) - ((b : ℝ) : EReal))) = _
  rw [← EReal.coe_sub, ← EReal.coe_neg, abs_eq_max_neg]
  exact ((EReal.coe_strictMono.monotone).map_sup _ _).symm

/-- The kernel's: of a row of a tile of 256 rows, in 32-bit integers. -/
theorem distance_int (q r b : ℕ) (hq : q < 8) (hr : r < 256) (hb : b < 4096) :
    (FloatOps.sitofp .f32 (IntOp.absi (IntOp.subi (IntOp.addi (Scalar.muli (BitVec.ofNat 32 q) 256#32) (BitVec.ofNat 32 r)) (BitVec.ofNat 32 b))) : Ideal .f32)
      = ((|((q * 256 + r : ℕ) : ℝ) - (b : ℝ)| : ℝ) : EReal) := by
  show (((IntOp.absi (BitVec.ofNat 32 q * BitVec.ofNat 32 256 + BitVec.ofNat 32 r - BitVec.ofNat 32 b)).toInt : ℝ) : EReal) = _
  rw [← BitVec.ofNat_mul, ← BitVec.ofNat_add, absi_toInt _ _ (by omega) hb]
  push_cast
  rfl

/-! ## The half of the lanes that a map of scores reads -/

/-- The lanes below 64. -/
theorem sum_low (f k : Fin 128 → EReal) :
    (∑ j : Fin 128, Scalar.select (IntOp.cmpi .slt (BitVec.ofNat 32 j.val) 64#32) (f j) 0 * k j)
      = ∑ x : Fin 64, f ⟨x.val, by omega⟩ * k ⟨x.val, by omega⟩ := by
  have hl : ∀ j : Fin 64, IntOp.cmpi .slt (BitVec.ofNat 32 j.val) 64#32 = 1#1 := by decide
  have hh : ∀ j : Fin 64, IntOp.cmpi .slt (BitVec.ofNat 32 (64 + j.val)) 64#32 = 0#1 := by decide
  rw [Fin.sum_univ_add (a := 64) (b := 64)]
  simp only [Fin.val_castAdd, Fin.val_natAdd, hl, hh]
  simp [Scalar.select]
  rfl

/-- The lanes from 64 on. -/
theorem sum_high (f k : Fin 128 → EReal) :
    (∑ j : Fin 128, Scalar.select (IntOp.cmpi .slt (BitVec.ofNat 32 j.val) 64#32) 0 (f j) * k j)
      = ∑ x : Fin 64, f ⟨64 + x.val, by omega⟩ * k ⟨64 + x.val, by omega⟩ := by
  have hl : ∀ j : Fin 64, IntOp.cmpi .slt (BitVec.ofNat 32 j.val) 64#32 = 1#1 := by decide
  have hh : ∀ j : Fin 64, IntOp.cmpi .slt (BitVec.ofNat 32 (64 + j.val)) 64#32 = 0#1 := by decide
  rw [Fin.sum_univ_add (a := 64) (b := 64)]
  simp only [Fin.val_castAdd, Fin.val_natAdd, hl, hh]
  simp [Scalar.select]
  rfl

/-! ## The scores -/

/-- The reference's score, of reals: the scaled dot product less the slope times the distance. -/
def score (q k : Fin 64 → ℝ) (slope dist : ℝ) : ℝ := (∑ x, q x * k x) * (1 / 8) - slope * dist

theorem score_reference (q k : Fin 64 → ℝ) (slope dist : ℝ) :
    (∑ x, (q x : EReal) * (k x : EReal)) * Ideal.ofBits .f32 1040187392#32 - (slope : EReal) * (dist : EReal) = ((score q k slope dist : ℝ) : EReal) := by
  simp only [← EReal.coe_mul]
  rw [← coe_sum, eighth, ← EReal.coe_mul, ← EReal.coe_sub]
  rfl

/-- The kernel's score is the reference's over log 2. -/
theorem score_kernel (q k : Fin 64 → ℝ) (slope dist : ℝ) :
    (∑ x, ((q x * (1 / 8) * (Real.log 2)⁻¹ : ℝ) : EReal) * (k x : EReal)) - (slope : EReal) * (((Real.log 2)⁻¹ : ℝ) : EReal) * (dist : EReal)
      = (((Real.log 2)⁻¹ * score q k slope dist : ℝ) : EReal) := by
  simp only [← EReal.coe_mul]
  rw [← coe_sum, ← EReal.coe_sub]
  congr 1
  unfold score
  rw [mul_sub, Finset.sum_mul, Finset.mul_sum]
  congr 1
  · exact Finset.sum_congr rfl fun x _ => by ring
  · ring

end Attention

end
-- ==== Proof.Attention.BlockValue.lean ====
/- The attention kernel's block at an index: the two maps' scores, their base-two softmaxes, the mix of the values, the norm. -/
module

public import proofs.«01_k».proof.Proof.Attention.Block
public import proofs.«01_k».proof.Proof.Attention.Softmax

@[expose] public section

noncomputable section

namespace Cert.KernelIdeal.Attention

open Cert.KernelIdeal Cert.KernelIdeal.Gen Idealize.ShloMosaic Idealize.ShloMosaic.TcCoe Idealize.SL.Sem

/-- A row of the first map's scores: the lanes below 64, less the bias. -/
def lowScore (q : FVec Ideal S256x128 .bf16) (k : FVec Ideal S2048x128 .bf16) (z : EReal) (bias : FVec Ideal S256x2048 .f32) (r : Fin 256) (x : Fin 2048) : EReal :=
  (∑ j : Fin 128, Scalar.select (IntOp.cmpi .slt (BitVec.ofNat 32 j.val) 64#32) (q (ix2 r j) : EReal) z * (k (ix2 x j) : EReal)) - bias (ix2 r x)

/-- A row of the second map's scores: the lanes from 64 on, less the bias. -/
def highScore (q : FVec Ideal S256x128 .bf16) (k : FVec Ideal S2048x128 .bf16) (z : EReal) (bias : FVec Ideal S256x2048 .f32) (r : Fin 256) (x : Fin 2048) : EReal :=
  (∑ j : Fin 128, Scalar.select (IntOp.cmpi .slt (BitVec.ofNat 32 j.val) 64#32) z (q (ix2 r j) : EReal) * (k (ix2 x j) : EReal)) - bias (ix2 r x)

/-- Two to the power of a row's entry less its maximum. -/
def power (s : Fin 2048 → EReal) (x : Fin 2048) : EReal :=
  Ideal.exp2 (s x - Finset.fold max (Ideal.ofBits .f32 4286578688#32) s Finset.univ)

theorem mix_at (l : FVec Ideal S1x1 .f32) (q : FVec Ideal S256x128 .bf16) (k : FVec Ideal S2048x128 .bf16) (z : EReal)
    (bias : FVec Ideal S256x2048 .f32) (v : FVec Ideal S1x2048x128 .bf16) (r : Fin 256) (d : Fin 128) :
    k0_pay7 l q k k0_pay6 z bias bias v (ix2 r d)
      = ∑ x : Fin 2048, (power (lowScore q k z bias r) x * Ideal.div 1 (∑ y : Fin 2048, power (lowScore q k z bias r) y)
            - power (highScore q k z bias r) x * Ideal.div (l (ix2 0 0)) (∑ y : Fin 2048, power (highScore q k z bias r) y))
          * v (ix3 0 x d) := by
  pointwise [k0_pay7, k0_pay6]
  rfl

theorem squares_at (l : FVec Ideal S1x1 .f32) (q : FVec Ideal S256x128 .bf16) (k : FVec Ideal S2048x128 .bf16) (z : EReal)
    (bias : FVec Ideal S256x2048 .f32) (v : FVec Ideal S1x2048x128 .bf16) (r : Fin 256) :
    k0_pay9 l q k k0_pay6 z bias bias v (ix2 r 0)
      = ∑ d : Fin 128, k0_pay7 l q k k0_pay6 z bias bias v (ix2 r d) * k0_pay7 l q k k0_pay6 z bias bias v (ix2 r d) := by
  pointwise [k0_pay9]

theorem queries_at (x : Vec Ideal S1x256x128 .bf16) (r : Fin 256) (d : Fin 128) : k0_pay4 x (ix2 r d) = x (ix3 0 r d) := by
  pointwise [k0_pay4]
theorem keys_at (x : Vec Ideal S1x2048x128 .bf16) (r : Fin 2048) (d : Fin 128) : k0_pay5 x (ix2 r d) = x (ix3 0 r d) := by
  pointwise [k0_pay5]

theorem factor_at (x1 x2 x3 x4 : FVec Ideal S1x64 .f32) :
    k0_pay3 (F := Ideal) x1 x2 x3 x4 (ix2 0 0)
      = Ideal.exp (∑ x : Fin 64, x1 (ix2 0 x) * x2 (ix2 0 x)) - Ideal.exp (∑ x : Fin 64, x3 (ix2 0 x) * x4 (ix2 0 x)) + Ideal.ofBits .f32 1045220557#32 := by
  pointwise [k0_pay3]
  simp

theorem norm_at (o : FVec Ideal S256x128 .f32) (g : FVec Ideal S1x128 .f32) (s : FVec Ideal S256x1 .f32) (r : Fin 256) (d : Fin 128) :
    k0_pay1 o (k0_pay8 g) s (Scalar.ofBits .f32 0x43000000#32) (ix3 0 r d)
      = o (ix2 r d) * Ideal.rsqrt (Ideal.div (s (ix2 r 0)) (Ideal.ofBits .f32 1124073472#32) + Ideal.ofBits .f32 897988541#32)
          * g (ix2 0 d) * Ideal.ofBits .f32 1061997773#32 := by
  pointwise [k0_pay1, k0_pay8]

/-- The name of the constant log₂ e stands for 1 / log 2. -/
theorem log2e : (Named.named κ "log2e" 0x3FB8AA3B#32 : Ideal .f32) = (((Real.log 2)⁻¹ : ℝ) : EReal) := rfl

/-- The bias: the slope over log 2 times the distance. -/
theorem bias_at (i : grid0.Coords) (s : EReal) (r : Fin 256) (x : Fin 2048) :
    k0_pay2 (F := Ideal) i s (ix2 r x)
      = s * (((Real.log 2)⁻¹ : ℝ) : EReal) * ((|(((i 1).val * 256 + r.val : ℕ) : ℝ) - (x.val : ℝ)| : ℝ) : EReal) := by
  have hd := Attention.distance_int (i 1).val r.val x.val (i 1).isLt r.isLt (by omega)
  rw [← hd, ← log2e]
  pointwise [k0_pay2]

/-- The block at an index, from its mix of the values. -/
theorem outBlock_at (bias : FVec Ideal S256x2048 .f32) (x1 x2 x3 x4 : FVec Ideal S1x64 .f32) (x5 : FVec Ideal S1x256x128 .bf16) (x6 x7 : FVec Ideal S1x2048x128 .bf16)
    (x8 : FVec Ideal S1x128 .f32) (r : Fin 256) (d : Fin 128) :
    outBlock (F := Ideal) bias x1 x2 x3 x4 x5 x6 x7 x8 (ix3 0 r d)
      = mixed (F := Ideal) bias x1 x2 x3 x4 x5 x6 x7 (ix2 r d)
          * Ideal.rsqrt (Ideal.div (∑ e : Fin 128, mixed (F := Ideal) bias x1 x2 x3 x4 x5 x6 x7 (ix2 r e) * mixed (F := Ideal) bias x1 x2 x3 x4 x5 x6 x7 (ix2 r e))
              (Ideal.ofBits .f32 1124073472#32) + Ideal.ofBits .f32 897988541#32)
          * x8 (ix2 0 d) * Ideal.ofBits .f32 1061997773#32 := by
  unfold outBlock
  rw [norm_at, squares_at]
  rfl

end Cert.KernelIdeal.Attention

end
-- ==== Proof.Attention.Stages.lean ====
/- The reference attention, stage by stage: scores, softmax weights, the mix of the values, the norm; each read at an index. -/
module

public import proofs.«01_k».proof.Proof.Gen.ReferenceIdeal.Run
public import Idealize.ShloMosaic.Lib.Pointwise

@[expose] public section

noncomputable section

namespace Cert.ReferenceIdeal.Attention

open Cert.ReferenceIdeal Cert.ReferenceIdeal.Gen Cert.ReferenceIdeal.Value Idealize.ShloMosaic Idealize.ShloMosaic.TcCoe Idealize.SL.Sem

/-- The table of the heads' slopes. -/
def slopes : FVec Ideal S4 .f32 := fun i => FloatOps.ofBits .f32 (lit0 (S4.rowMajor i))

/-- The distance of two positions. -/
def distances : FVec Ideal S2048x2048 .f32 :=
  Host.absf (subf (broadcastInDim S2048x2048 ![0, 1] bcast_S2048x1_S2048x2048_0_1 (broadcastInDim S2048x1 ![0] bcast_S2048_S2048x1_0 (sitofp .f32 (iotaInDim S2048 32 0))))
    (broadcastInDim S2048x2048 ![0, 1] bcast_S1x2048_S2048x2048_0_1 (broadcastInDim S1x2048 ![1] bcast_S2048_S1x2048_1 (sitofp .f32 (iotaInDim S2048 32 0)))))

/-- The scores: scaled dot products of queries and keys, less the head's slope times the distance. -/
def scores (q k : FVec Ideal S32768x512 .f32) : FVec Ideal S16x4x2x2048x2048 .f32 :=
  subf (mulf (Host.dotGeneral dot_S16x2048x4x2x64_S16x2048x4x2x64_S16x4x2x2048x2048_4_4_1_1_023_023 none
        (shapeCast _ q shapeCasts_S32768x512_S16x2048x4x2x64) (shapeCast _ k shapeCasts_S32768x512_S16x2048x4x2x64))
      (broadcastInDim S16x4x2x2048x2048 ![] bcast_S_S16x4x2x2048x2048 (constant S_ .f32 0x3E000000#32)))
    (broadcastInDim S16x4x2x2048x2048 ![0, 1, 2, 3, 4] bcast_S1x4x1x2048x2048_S16x4x2x2048x2048_0_1_2_3_4
      (mulf (broadcastInDim S1x4x1x2048x2048 ![0, 1, 2, 3, 4] bcast_S1x4x1x1x1_S1x4x1x2048x2048_0_1_2_3_4 (broadcastInDim S1x4x1x1x1 ![1] bcast_S4_S1x4x1x1x1_1 slopes))
        (broadcastInDim S1x4x1x2048x2048 ![0, 1, 2, 3, 4] bcast_S1x1x1x2048x2048_S1x4x1x2048x2048_0_1_2_3_4
          (broadcastInDim S1x1x1x2048x2048 ![3, 4] bcast_S2048x2048_S1x1x1x2048x2048_3_4 distances))))

/-- The maximum of every row of the scores. -/
def rowMax (s : FVec Ideal S16x4x2x2048x2048 .f32) : FVec Ideal S16x4x2x2048 .f32 :=
  Host.reduce FloatOps.maximumf s (constant S_ .f32 0xFF800000#32) reducesTo_S16x4x2x2048x2048_S16x4x2x2048_d4 h_S_

/-- The exponentials of the scores less the given number of their row. -/
def exps (s : FVec Ideal S16x4x2x2048x2048 .f32) (r : FVec Ideal S16x4x2x2048 .f32) : FVec Ideal S16x4x2x2048x2048 .f32 :=
  Host.exp (subf s (broadcastInDim S16x4x2x2048x2048 ![0, 1, 2, 3, 4] bcast_S16x4x2x2048x1_S16x4x2x2048x2048_0_1_2_3_4
    (broadcastInDim S16x4x2x2048x1 ![0, 1, 2, 3] bcast_S16x4x2x2048_S16x4x2x2048x1_0_1_2_3
      (maximumf (broadcastInDim S16x4x2x2048 ![] bcast_S_S16x4x2x2048 (constant S_ .f32 0xFF800000#32)) r))))

/-- The softmax of the scores. -/
def probs (e : FVec Ideal S16x4x2x2048x2048 .f32) : FVec Ideal S16x4x2x2048x2048 .f32 :=
  Host.divf e (broadcastInDim S16x4x2x2048x2048 ![0, 1, 2, 3, 4] bcast_S16x4x2x2048x1_S16x4x2x2048x2048_0_1_2_3_4
    (broadcastInDim S16x4x2x2048x1 ![0, 1, 2, 3] bcast_S16x4x2x2048_S16x4x2x2048x1_0_1_2_3
      (Host.reduceAdd e (constant S_ .f32 0x00000000#32) reducesTo_S16x4x2x2048x2048_S16x4x2x2048_d4 h_S_)))

/-- The factor of the second softmax. -/
def lam (a b c d : FVec Ideal S64 .f32) : FVec Ideal S_ .f32 :=
  addf (subf (Host.exp (Host.reduceAdd (mulf a b) (constant S_ .f32 0x00000000#32) reducesTo_S64_S_d0 h_S_))
    (Host.exp (Host.reduceAdd (mulf c d) (constant S_ .f32 0x00000000#32) reducesTo_S64_S_d0 h_S_))) (constant S_ .f32 0x3E4CCCCD#32)

/-- The first softmax less the factor times the second. -/
def weights (l : FVec Ideal S_ .f32) (p : FVec Ideal S16x4x2x2048x2048 .f32) : FVec Ideal S16x4x2048x2048 .f32 :=
  subf (shapeCast _ (extractStridedSlice S16x4x1x2048x2048 ![0, 0, 0, 0, 0] p slices_S16x4x2x2048x2048_S16x4x1x2048x2048_0_0_0_0_0) shapeCasts_S16x4x1x2048x2048_S16x4x2048x2048)
    (mulf (broadcastInDim S16x4x2048x2048 ![] bcast_S_S16x4x2048x2048 l)
      (shapeCast _ (extractStridedSlice S16x4x1x2048x2048 ![0, 0, 1, 0, 0] p slices_S16x4x2x2048x2048_S16x4x1x2048x2048_0_0_1_0_0) shapeCasts_S16x4x1x2048x2048_S16x4x2048x2048))

/-- The values mixed by the weights. -/
def mix (v : FVec Ideal S32768x512 .f32) (w : FVec Ideal S16x4x2048x2048 .f32) : FVec Ideal S16x2048x4x128 .f32 :=
  transpose S16x2048x4x128 [0, 3, 1, 2] (Host.dotGeneral dot_S16x2048x4x128_S16x4x2048x2048_S16x4x128x2048_1_3_3_2_02_01 none
    (shapeCast _ v shapeCasts_S32768x512_S16x2048x4x128) w) transposes_S16x4x128x2048_S16x2048x4x128_0_3_1_2

/-- The norm over a head's channels, the scale of the channels and the constant factor. -/
def normed (g : FVec Ideal S128 .f32) (o : FVec Ideal S16x2048x4x128 .f32) : FVec Ideal S16x2048x512 .bf16 :=
  truncf .bf16 (shapeCast _ (mulf (mulf (mulf o
      (broadcastInDim S16x2048x4x128 ![0, 1, 2, 3] bcast_S16x2048x4x1_S16x2048x4x128_0_1_2_3
        (Host.rsqrt (addf (Host.divf (broadcastInDim S16x2048x4x1 ![0, 1, 2] bcast_S16x2048x4_S16x2048x4x1_0_1_2
              (Host.reduceAdd (mulf o o) (constant S_ .f32 0x00000000#32) reducesTo_S16x2048x4x128_S16x2048x4_d3 h_S_))
            (broadcastInDim S16x2048x4x1 ![] bcast_S_S16x2048x4x1 (constant S_ .f32 0x43000000#32)))
          (broadcastInDim S16x2048x4x1 ![] bcast_S_S16x2048x4x1 (constant S_ .f32 0x358637BD#32))))))
      (broadcastInDim S16x2048x4x128 ![0, 1, 2, 3] bcast_S1x1x1x128_S16x2048x4x128_0_1_2_3 (broadcastInDim S1x1x1x128 ![3] bcast_S128_S1x1x1x128_3 g)))
      (broadcastInDim S16x2048x4x128 ![] bcast_S_S16x2048x4x128 (constant S_ .f32 0x3F4CCCCD#32))) shapeCasts_S16x2048x4x128_S16x2048x512) bitsLt_bf16_f32

/-- The stages one after another. -/
def attended (q k v : FVec Ideal S32768x512 .f32) (a1 b1 a2 b2 : FVec Ideal S64 .f32) (g : FVec Ideal S128 .f32) : FVec Ideal S16x2048x512 .bf16 :=
  normed g (mix v (weights (lam a1 b1 a2 b2) (probs (exps (scores q k) (rowMax (scores q k))))))

/-- What the reference returns is the composition of the stages. -/
theorem result_stages (m : (ℓ : Loc nD τ sig) → Buf (Elt Ideal) ℓ) (c : Dev nD) :
    res_main_v65 m c = attended (m (c.tc.loc main_arg0)) (m (c.tc.loc main_arg1)) (m (c.tc.loc main_arg2)) (m (c.tc.loc main_arg3))
      (m (c.tc.loc main_arg4)) (m (c.tc.loc main_arg5)) (m (c.tc.loc main_arg6)) (m (c.tc.loc main_arg7)) := by
  unfold res_main_v65
  rfl

theorem distances_apply (n k : Fin 2048) :
    distances (ix2 n k) = FloatOps.absf (FloatOps.sitofp .f32 (BitVec.ofNat 32 n.val) - FloatOps.sitofp .f32 (BitVec.ofNat 32 k.val) : Ideal .f32) := by
  pointwise [distances]

theorem scores_apply (q k : FVec Ideal S32768x512 .f32) (b : Fin 16) (h : Fin 4) (g : Fin 2) (n j : Fin 2048) :
    scores q k (ix5 b h g n j)
      = (∑ x : Fin 64, q (ix2 ⟨b.val * 2048 + n.val, by omega⟩ ⟨h.val * 128 + g.val * 64 + x.val, by omega⟩)
            * k (ix2 ⟨b.val * 2048 + j.val, by omega⟩ ⟨h.val * 128 + g.val * 64 + x.val, by omega⟩)) * Ideal.ofBits .f32 1040187392#32
          - slopes (ix1 h) * distances (ix2 n j) := by
  pointwise [scores]

theorem exps_apply (s : FVec Ideal S16x4x2x2048x2048 .f32) (r : FVec Ideal S16x4x2x2048 .f32) (b : Fin 16) (h : Fin 4) (g : Fin 2) (n j : Fin 2048) :
    exps s r (ix5 b h g n j) = Ideal.exp (s (ix5 b h g n j) - max (Ideal.ofBits .f32 4286578688#32) (r (ix4 b h g n))) := by
  pointwise [exps]

theorem reduces_last : S16x4x2x2048x2048.Reduces [4] S16x4x2x2048 := by decide

theorem rowMax_apply (s : FVec Ideal S16x4x2x2048x2048 .f32) (b : Fin 16) (h : Fin 4) (g : Fin 2) (n : Fin 2048) :
    rowMax s (ix4 b h g n) = Finset.fold max (Ideal.ofBits .f32 4286578688#32) (fun x : Fin 2048 => s (ix5 b h g n x)) Finset.univ := by
  unfold rowMax
  rw [Host.reduce_eq_fold_single FloatOps.maximumf s _ reducesTo_S16x4x2x2048x2048_S16x4x2x2048_d4 reduces_last h_S_]
  have hf : (s ∘ reduces_last.lift (ix4 b h g n)) = fun x : Fin 2048 => s (ix5 b h g n x) := by
    funext x
    refine congrArg s (funext fun a => Fin.ext ?_)
    fin_cases a <;> rfl
  exact congrArg (fun f => Finset.fold max (Ideal.ofBits .f32 4286578688#32) f (Finset.univ : Finset (Fin 2048))) hf

theorem probs_apply (e : FVec Ideal S16x4x2x2048x2048 .f32) (b : Fin 16) (h : Fin 4) (g : Fin 2) (n j : Fin 2048) :
    probs e (ix5 b h g n j) = Ideal.div (e (ix5 b h g n j)) (∑ x : Fin 2048, e (ix5 b h g n x)) := by
  pointwise [probs]

theorem lam_apply (x1 x2 x3 x4 : FVec Ideal S64 .f32) :
    lam x1 x2 x3 x4 ix0 = Ideal.exp (∑ x : Fin 64, x1 (ix1 x) * x2 (ix1 x)) - Ideal.exp (∑ x : Fin 64, x3 (ix1 x) * x4 (ix1 x))
      + Ideal.ofBits .f32 1045220557#32 := by
  pointwise [lam]

theorem weights_apply (l : FVec Ideal S_ .f32) (p : FVec Ideal S16x4x2x2048x2048 .f32) (b : Fin 16) (h : Fin 4) (n j : Fin 2048) :
    weights l p (ix4 b h n j) = p (ix5 b h 0 n j) - l ix0 * p (ix5 b h 1 n j) := by
  pointwise [weights]

theorem mix_apply (v : FVec Ideal S32768x512 .f32) (w : FVec Ideal S16x4x2048x2048 .f32) (b : Fin 16) (n : Fin 2048) (h : Fin 4) (d : Fin 128) :
    mix v w (ix4 b n h d) = ∑ x : Fin 2048, v (ix2 ⟨b.val * 2048 + x.val, by omega⟩ ⟨h.val * 128 + d.val, by omega⟩) * w (ix4 b h n x) := by
  pointwise [mix]

theorem normed_apply (g : FVec Ideal S128 .f32) (o : FVec Ideal S16x2048x4x128 .f32) (b : Fin 16) (n : Fin 2048) (c : Fin 512) :
    normed g o (ix3 b n c)
      = o (ix4 b n ⟨c.val / 128, by omega⟩ ⟨c.val % 128, by omega⟩)
          * Ideal.rsqrt (Ideal.div (∑ x : Fin 128, o (ix4 b n ⟨c.val / 128, by omega⟩ x) * o (ix4 b n ⟨c.val / 128, by omega⟩ x)) (Ideal.ofBits .f32 1124073472#32)
              + Ideal.ofBits .f32 897988541#32)
          * g (ix1 ⟨c.val % 128, by omega⟩) * Ideal.ofBits .f32 1061997773#32 := by
  pointwise [normed]

end Cert.ReferenceIdeal.Attention

end
-- ==== Proof.Attention.Equation.lean ====
/- The equation of the attention: where queries and keys are real numbers, the kernel's array is the reference's. -/
module

public import proofs.«01_k».proof.Proof.Attention.Array
public import proofs.«01_k».proof.Proof.Attention.BlockValue
public import proofs.«01_k».proof.Proof.Attention.Stages

@[expose] public section

noncomputable section

namespace Cert.KernelIdeal.Attention

open Cert.KernelIdeal Cert.KernelIdeal.Gen Cert.KernelIdeal.Value Idealize.ShloMosaic Idealize.ShloMosaic.TcCoe Idealize.SL.Sem
open Cert.ReferenceIdeal.Attention (slopes distances scores rowMax exps probs lam weights mix normed attended)

variable (m : (ℓ : Loc nD τ sig) → Buf (Elt Ideal) ℓ) (c : Dev nD)

/-! ## The slopes -/

/-- The slope of each head is a real number. -/
theorem slope_real (h : Fin 4) : ∃ s : ℝ, slopes (ix1 h) = ((s : ℝ) : EReal) := by
  have e : ∀ w : BitVec 32, w = 0x3E800000#32 ∨ w = 0x3D800000#32 ∨ w = 0x3C800000#32 ∨ w = 0x3B800000#32 → ∃ s : ℝ, Ideal.ofBits .f32 w = ((s : ℝ) : EReal) := by
    rintro w (rfl | rfl | rfl | rfl)
    all_goals
      simp [Ideal.ofBits, Ideal.ieee]
      exact ⟨_, (EReal.coe_mul _ _).symm⟩
  refine e (Cert.ReferenceIdeal.lit0 (Cert.ReferenceIdeal.S4.rowMajor (ix1 h))) ?_
  revert h
  decide

/-- Both sides hold the same table of slopes. -/
theorem slopes_same (h : Fin 4) : (V m c main_cst : FVec Ideal S4 .f32) (ix1 h) = slopes (ix1 h) := by
  rw [host_slopes]
  rfl

/-! ## The scores -/

/-- Row `n` of sequence `b`, the 64 channels of map `g` of head `h`. -/
def channels (a : S32768x512.Idx → ℝ) (b : Fin 16) (h : Fin 4) (g : Fin 2) (n : Fin 2048) (x : Fin 64) : ℝ :=
  a (ix2 (⟨b.val * 2048 + n.val, by omega⟩ : Fin 32768) (⟨h.val * 128 + g.val * 64 + x.val, by omega⟩ : Fin 512))

/-- The score of query row `n` and key row `j`, as a real number. -/
def realScore (q k : S32768x512.Idx → ℝ) (s : ℝ) (b : Fin 16) (h : Fin 4) (g : Fin 2) (n j : Fin 2048) : ℝ :=
  Attention.score (channels q b h g n) (channels k b h g j) s |(n.val : ℝ) - (j.val : ℝ)|

variable (q k : S32768x512.Idx → ℝ)

theorem reference_score (aq ak : FVec Ideal S32768x512 .f32) (hq : ∀ i, aq i = ((q i : ℝ) : EReal)) (hk : ∀ i, ak i = ((k i : ℝ) : EReal))
    (b : Fin 16) (h : Fin 4) (g : Fin 2) (n j : Fin 2048) (s : ℝ) (hs : slopes (ix1 h) = ((s : ℝ) : EReal)) :
    scores aq ak (ix5 b h g n j) = ((realScore q k s b h g n j : ℝ) : EReal) := by
  rw [Cert.ReferenceIdeal.Attention.scores_apply, hs, Cert.ReferenceIdeal.Attention.distances_apply,
    Attention.distance_real n.val j.val (by omega) (by omega)]
  simp only [hq, hk]
  exact Attention.score_reference (channels q b h g n) (channels k b h g j) s _

/-- The bias of a grid point at an index. -/
theorem bias_real (b : Fin 16) (h : Fin 4) (n j : Fin 2048) (s : ℝ) (hs : slopes (ix1 h) = ((s : ℝ) : EReal))
    (t : Fin cfg0.N) (ht : t.val = b.val + 16 * (n.val / 256) + 128 * h.val) :
    biasAt m c t (ix2 (⟨n.val % 256, by omega⟩ : Fin 256) j)
      = ((s : ℝ) : EReal) * (((Real.log 2)⁻¹ : ℝ) : EReal) * ((|(n.val : ℝ) - (j.val : ℝ)| : ℝ) : EReal) := by
  have hh : slopeAt (grid0.coords t) (iblk m c 0 t) = ((s : ℝ) : EReal) := by
    unfold slopeAt
    rw [slopes_read]
    have e : (⟨(grid0.coords t 0).val, (grid0.coords t 0).isLt⟩ : Fin 4) = h := by
      apply Fin.ext
      show (grid0.coords t 0).val = h.val
      rw [coords_head]
      omega
    exact ((congrArg (fun x : Fin 4 => (V m c main_cst : FVec Ideal S4 .f32) (ix1 x)) e).trans (slopes_same m c h)).trans hs
  have hn : (grid0.coords t 1).val * 256 + n.val % 256 = n.val := by rw [coords_tile]; omega
  unfold biasAt
  rw [hh, bias_at]
  show _ * _ * ((|(((grid0.coords t 1).val * 256 + n.val % 256 : ℕ) : ℝ) - (j.val : ℝ)| : ℝ) : EReal) = _
  rw [hn]

variable (hq : ∀ i, argQueries m c i = ((q i : ℝ) : EReal)) (hk : ∀ i, argKeys m c i = ((k i : ℝ) : EReal))

include hq in
/-- A lane of a query row as the kernel reads it. -/
theorem query_lane (b : Fin 16) (h : Fin 4) (g : Fin 2) (n : Fin 2048) (t : Fin cfg0.N) (ht : t.val = b.val + 16 * (n.val / 256) + 128 * h.val)
    (x : Fin 64) (l : Fin 128) (hl : l.val = g.val * 64 + x.val) :
    (k0_pay4 (F := Ideal) (iblk m c 5 t) (ix2 (⟨n.val % 256, by omega⟩ : Fin 256) l) : EReal)
      = ((channels q b h g n x * (1 / 8) * (Real.log 2)⁻¹ : ℝ) : EReal) := by
  rw [queries_at]
  refine (queries_read m c t _ l).trans ?_
  rw [show (ix3 (⟨t.val % 16, by omega⟩ : Fin 16) (⟨t.val / 16 % 8 * 256 + n.val % 256, by omega⟩ : Fin 2048)
        (⟨t.val / 128 * 128 + l.val, by have := point_lt t; omega⟩ : Fin 512) : S16x2048x512.Idx)
      = ix3 b n (⟨h.val * 128 + g.val * 64 + x.val, by omega⟩ : Fin 512) from by
    congr 1 <;> apply Fin.ext <;> simp only <;> omega]
  rw [host_queries, hq]
  exact Attention.scaled_query _

include hk in
/-- A lane of a key row as the kernel reads it. -/
theorem key_lane (b : Fin 16) (h : Fin 4) (g : Fin 2) (n j : Fin 2048) (t : Fin cfg0.N) (ht : t.val = b.val + 16 * (n.val / 256) + 128 * h.val)
    (x : Fin 64) (l : Fin 128) (hl : l.val = g.val * 64 + x.val) :
    (k0_pay5 (F := Ideal) (iblk m c 6 t) (ix2 j l) : EReal) = ((channels k b h g j x : ℝ) : EReal) := by
  rw [keys_at]
  refine (keys_read m c t j l).trans ?_
  rw [show (ix3 (⟨t.val % 16, by omega⟩ : Fin 16) j (⟨t.val / 128 * 128 + l.val, by have := point_lt t; omega⟩ : Fin 512) : S16x2048x512.Idx)
      = ix3 b j (⟨h.val * 128 + g.val * 64 + x.val, by omega⟩ : Fin 512) from by
    congr 1 <;> apply Fin.ext <;> simp only <;> omega]
  rw [host_keys, hk]
  rfl

include hq hk in
theorem kernel_low (b : Fin 16) (h : Fin 4) (n : Fin 2048) (s : ℝ) (hs : slopes (ix1 h) = ((s : ℝ) : EReal))
    (t : Fin cfg0.N) (ht : t.val = b.val + 16 * (n.val / 256) + 128 * h.val) :
    lowScore (k0_pay4 (iblk m c 5 t)) (k0_pay5 (iblk m c 6 t)) 0 (biasAt m c t) ⟨n.val % 256, by omega⟩
      = fun j => (((Real.log 2)⁻¹ * realScore q k s b h 0 n j : ℝ) : EReal) := by
  funext j
  unfold lowScore
  rw [bias_real m c b h n j s hs t ht]
  refine Eq.trans ?_ (Attention.score_kernel (channels q b h 0 n) (channels k b h 0 j) s _)
  refine congrArg (· - _) ((Attention.sum_low _ _).trans (Finset.sum_congr rfl fun x _ => ?_))
  rw [query_lane m c q hq b h 0 n t ht x _ (by simp), key_lane m c k hk b h 0 n j t ht x _ (by simp)]

include hq hk in
theorem kernel_high (b : Fin 16) (h : Fin 4) (n : Fin 2048) (s : ℝ) (hs : slopes (ix1 h) = ((s : ℝ) : EReal))
    (t : Fin cfg0.N) (ht : t.val = b.val + 16 * (n.val / 256) + 128 * h.val) :
    highScore (k0_pay4 (iblk m c 5 t)) (k0_pay5 (iblk m c 6 t)) 0 (biasAt m c t) ⟨n.val % 256, by omega⟩
      = fun j => (((Real.log 2)⁻¹ * realScore q k s b h 1 n j : ℝ) : EReal) := by
  funext j
  unfold highScore
  rw [bias_real m c b h n j s hs t ht]
  refine Eq.trans ?_ (Attention.score_kernel (channels q b h 1 n) (channels k b h 1 j) s _)
  refine congrArg (· - _) ((Attention.sum_high _ _).trans (Finset.sum_congr rfl fun x _ => ?_))
  rw [query_lane m c q hq b h 1 n t ht x _ (by simp), key_lane m c k hk b h 1 n j t ht x _ (by simp)]

/-! ## The softmaxes and the mix -/

/-- The reference's exponential of a score less its row's maximum. -/
def weight (s : Fin 2048 → ℝ) (x : Fin 2048) : EReal :=
  Ideal.exp ((s x : EReal) - max ⊥ (Finset.fold max (⊥ : EReal) (fun x => ((s x : ℝ) : EReal)) Finset.univ))

theorem power_eq (s : Fin 2048 → ℝ) (x : Fin 2048) : power (fun j => (((Real.log 2)⁻¹ * s j : ℝ) : EReal)) x = weight s x := by
  unfold power weight
  rw [Attention.neg_inf]
  exact Attention.exp2_shift s x

theorem weight_sum_ne_zero (s : Fin 2048 → ℝ) : ∑ x, weight s x ≠ 0 := Attention.exp_sum_ne_zero s

theorem reference_exps (aq ak : FVec Ideal S32768x512 .f32) (hq : ∀ i, aq i = ((q i : ℝ) : EReal)) (hk : ∀ i, ak i = ((k i : ℝ) : EReal))
    (b : Fin 16) (h : Fin 4) (g : Fin 2) (n j : Fin 2048) (s : ℝ) (hs : slopes (ix1 h) = ((s : ℝ) : EReal)) :
    exps (scores aq ak) (rowMax (scores aq ak)) (ix5 b h g n j) = weight (realScore q k s b h g n) j := by
  rw [Cert.ReferenceIdeal.Attention.exps_apply, Cert.ReferenceIdeal.Attention.rowMax_apply, Attention.neg_inf]
  simp only [reference_score q k aq ak hq hk b h g n _ s hs]
  rfl

include hq hk in
/-- The kernel's mix of the values is the reference's. -/
theorem mixed_eq (b : Fin 16) (h : Fin 4) (n : Fin 2048) (d : Fin 128)
    (t : Fin cfg0.N) (ht : t.val = b.val + 16 * (n.val / 256) + 128 * h.val) :
    mixed (F := Ideal) (biasAt m c t) (iblk m c 1 t) (iblk m c 2 t) (iblk m c 3 t) (iblk m c 4 t) (iblk m c 5 t) (iblk m c 6 t) (iblk m c 7 t)
        (ix2 (⟨n.val % 256, by omega⟩ : Fin 256) d)
      = mix (argValues m c) (weights (lam (m (c.tc.loc main_arg3)) (m (c.tc.loc main_arg4)) (m (c.tc.loc main_arg5)) (m (c.tc.loc main_arg6)))
          (probs (exps (scores (argQueries m c) (argKeys m c)) (rowMax (scores (argQueries m c) (argKeys m c)))))) (ix4 b n h d) := by
  obtain ⟨s, hs⟩ := slope_real h
  have hz : (Scalar.ofBits .bf16 0x0000#16 : Ideal .bf16) = (0 : EReal) := Ideal.ofBits_zero_bf16
  unfold mixed
  rw [hz, mix_at, kernel_low m c q k hq hk b h n s hs t ht, kernel_high m c q k hq hk b h n s hs t ht, Cert.ReferenceIdeal.Attention.mix_apply]
  refine Finset.sum_congr rfl fun x _ => ?_
  have hl : k0_pay3 (F := Ideal) (iblk m c 1 t) (iblk m c 2 t) (iblk m c 3 t) (iblk m c 4 t) (ix2 0 0)
      = lam (m (c.tc.loc main_arg3)) (m (c.tc.loc main_arg4)) (m (c.tc.loc main_arg5)) (m (c.tc.loc main_arg6)) ix0 := by
    rw [factor_at, Cert.ReferenceIdeal.Attention.lam_apply]
    simp only [row1_read, row2_read, row3_read, row4_read]
    exact congrArg (· + _) (congrArg₂ (· - ·)
      (congrArg Ideal.exp (Finset.sum_congr rfl fun x _ => congrArg₂ (· * ·) (host_row1 m c x) (host_row2 m c x)))
      (congrArg Ideal.exp (Finset.sum_congr rfl fun x _ => congrArg₂ (· * ·) (host_row3 m c x) (host_row4 m c x))))
  have hv : (iblk m c 7 t : Vec Ideal S1x2048x128 .bf16) (ix3 0 x d)
      = argValues m c (ix2 (⟨b.val * 2048 + x.val, by omega⟩ : Fin 32768) (⟨h.val * 128 + d.val, by omega⟩ : Fin 512)) := by
    refine (values_read m c t x d).trans ?_
    rw [show (ix3 (⟨t.val % 16, by omega⟩ : Fin 16) x (⟨t.val / 128 * 128 + d.val, by have := point_lt t; omega⟩ : Fin 512) : S16x2048x512.Idx)
        = ix3 b x (⟨h.val * 128 + d.val, by omega⟩ : Fin 512) from by
      congr 1 <;> apply Fin.ext <;> simp only <;> omega]
    exact host_values m c b x _
  rw [hl, hv, Cert.ReferenceIdeal.Attention.weights_apply, Cert.ReferenceIdeal.Attention.probs_apply, Cert.ReferenceIdeal.Attention.probs_apply]
  simp only [power_eq, reference_exps q k _ _ hq hk b h _ n _ s hs]
  rw [Attention.weights_eq _ _ _ _ _ (weight_sum_ne_zero _) (weight_sum_ne_zero _)]
  exact mul_comm _ _

include hq hk in
/-- The kernel's array is the reference's result. -/
theorem array_eq :
    G9 m c = attended (argQueries m c) (argKeys m c) (argValues m c) (m (c.tc.loc main_arg3)) (m (c.tc.loc main_arg4)) (m (c.tc.loc main_arg5))
      (m (c.tc.loc main_arg6)) (m (c.tc.loc main_arg7)) := by
  funext i
  obtain ⟨b, n, d, rfl⟩ : ∃ (b : Fin 16) (n : Fin 2048) (d : Fin 512), i = ix3 b n d := ⟨i 0, i 1, i 2, eq_ix3 i⟩
  have hlt : b.val + 16 * (n.val / 256) + 128 * (d.val / 128) < cfg0.N := lt_of_lt_of_eq (by omega) N_0.symm
  have e := array_apply m c b n d ⟨_, hlt⟩ rfl
  refine e.trans ?_
  unfold attended
  rw [outBlock_at, Cert.ReferenceIdeal.Attention.normed_apply]
  simp only [mixed_eq m c q k hq hk b (⟨d.val / 128, by omega⟩ : Fin 4) n _ ⟨_, hlt⟩ rfl]
  rw [scale_read, host_scale]

end Cert.KernelIdeal.Attention

end
-- ==== Proof.Attention.Finite.lean ====
/- The precondition: every query and every key is a real number. -/
module

public import proofs.«01_k».proof.Proof.Gen.Pre_finite
public import Idealize.ShloMosaic.Lib.ReduceAll
public import Idealize.ShloMosaic.Lib.Pointwise

@[expose] public section

noncomputable section

namespace Cert.Pre_finite.Attention

open Cert.Pre_finite Cert.Pre_finite.Gen Idealize.ShloMosaic

/-- A value whose magnitude is below infinity is a real number. -/
theorem real_of_abs_lt (x : EReal) (h : max x (-x) < ⊤) : ∃ r : ℝ, x = ((r : ℝ) : EReal) := by
  induction x with
  | bot => simp at h
  | top => simp at h
  | coe r => exact ⟨r, rfl⟩

/-- The pattern of the infinite bound. -/
theorem infinity : (Ideal.ofBits .f32 0x7F800000#32 : EReal) = ⊤ := by simp [Ideal.ofBits, Ideal.ieee]

/-- The test of one array: that every magnitude compares below infinity. -/
theorem entries_real (a : FVec Ideal S32768x512 .f32)
    (h : Host.reduce IntOp.andi (cmpf .olt (Host.absf a) (broadcastInDim S32768x512 ![] Facts.bcast_S_S32768x512 (constant S_ .f32 0x7F800000#32)))
      (constantI S_ 1 1#1) Facts.reducesTo_S32768x512_S_d0_1 Facts.h_S_ (ix0 : S_.Idx) = 1#1) (i : S32768x512.Idx) :
    ∃ r : ℝ, a i = ((r : ℝ) : EReal) := by
  haveI : Subsingleton S_.Idx := ⟨fun a b => funext fun k => k.elim0⟩
  have e := Host.reduce_andi_all _ _ _ _ _ h i
  refine real_of_abs_lt _ ?_
  have e' : BitVec.ofBool (decide (max (a i) (-(a i)) < Ideal.ofBits .f32 0x7F800000#32)) = 1#1 := e
  rw [infinity] at e'
  by_contra hn
  rw [decide_eq_false hn] at e'
  exact absurd e' (by decide)

/-- Where the precondition holds, the queries and the keys are real. -/
theorem reals (a0 a1 a2 : FVec Ideal S32768x512 .f32) (a3 a4 a5 a6 : FVec Ideal S64 .f32) (a7 : FVec Ideal S128 .f32)
    (h : fn (F := Ideal) a0 a1 a2 a3 a4 a5 a6 a7 = fun _ => 1#1) :
    (∀ i, ∃ r : ℝ, a0 i = ((r : ℝ) : EReal)) ∧ (∀ i, ∃ r : ℝ, a1 i = ((r : ℝ) : EReal)) := by
  have h0 := congrFun h (ix0 : S_.Idx)
  unfold fn at h0
  have both : ∀ x y : BitVec 1, x &&& y = 1#1 → x = 1#1 ∧ y = 1#1 := by decide
  obtain ⟨hq, hk⟩ := both _ _ h0
  exact ⟨entries_real a0 hq, entries_real a1 hk⟩

end Cert.Pre_finite.Attention

end
-- ==== Proof.Projection.Spec.lean ====
/- The input projection as formulas over plain families of extended reals: the normed row, its products with the weights, the norm of 64 channels. -/
module

public import proofs.«01_k».proof.Proof.Attention.Softmax
public import Idealize.ShloMosaic.Lib.Pointwise

@[expose] public section

noncomputable section

namespace Projection

open Idealize.ShloMosaic

/-- A row divided by its root mean square, times the scale. -/
def rowNorm (x g : Fin 1024 → EReal) (j : Fin 1024) : EReal :=
  x j * Ideal.rsqrt (Ideal.div (∑ y, x y * x y) (Ideal.ofBits .f32 0x44800000#32) + Ideal.ofBits .f32 0x358637BD#32) * g j

/-- Channel `i` of 64, divided by their root mean square, times the scale. -/
def channelNorm (s : Fin 64 → EReal) (w : EReal) (i : Fin 64) : EReal :=
  s i * Ideal.rsqrt (Ideal.div (∑ x, s x * s x) (Ideal.ofBits .f32 0x42800000#32) + Ideal.ofBits .f32 0x358637BD#32) * w

/-- Lane `d` of a head of two maps of 64 channels: divided by the root mean square of its own map, times the scale. The sums are over all
    128 lanes with the other map's lanes set to zero. -/
def lanesNorm (s : Fin 128 → EReal) (w : EReal) (d : Fin 128) : EReal :=
  s d * Ideal.rsqrt (Scalar.select (IntOp.cmpi .slt (BitVec.ofNat 32 d.val) 64#32)
      (∑ x : Fin 128, Scalar.select (IntOp.cmpi .slt (BitVec.ofNat 32 x.val) 64#32) (s x * s x) 0)
      (∑ x : Fin 128, Scalar.select (IntOp.cmpi .slt (BitVec.ofNat 32 x.val) 64#32) 0 (s x * s x)) * Ideal.ofBits .f32 0x3C800000#32
    + Ideal.ofBits .f32 0x358637BD#32) * w

theorem sixty_fourth (a : EReal) : a * Ideal.ofBits .f32 0x3C800000#32 = Ideal.div a (Ideal.ofBits .f32 0x42800000#32) := by
  have e : Ideal.ofBits .f32 0x42800000#32 = ((64 : ℝ) : EReal) := by
    simp [Ideal.ofBits, Ideal.ieee]; norm_num; rw [← EReal.coe_mul]; norm_num
  have f : Ideal.ofBits .f32 0x3C800000#32 = (((64 : ℝ)⁻¹ : ℝ) : EReal) := by
    simp [Ideal.ofBits, Ideal.ieee]
    rw [← EReal.coe_mul]
    norm_num
  rw [e, f, Ideal.div, if_neg (by norm_cast), EReal.coe_inv]

/-- The two maps apart: a lane's norm is the norm of its own 64 channels. -/
theorem lanesNorm_eq (s : Fin 128 → EReal) (w : EReal) (d : Fin 128) :
    lanesNorm s w d = channelNorm (fun x => s ⟨d.val / 64 * 64 + x.val, by omega⟩) w ⟨d.val % 64, by omega⟩ := by
  have low := Attention.sum_low (fun x => s x * s x) (fun _ => 1)
  have high := Attention.sum_high (fun x => s x * s x) (fun _ => 1)
  simp only [mul_one] at low high
  unfold lanesNorm channelNorm
  rw [low, high, sixty_fourth]
  dsimp only
  have hd : s ⟨d.val / 64 * 64 + d.val % 64, by omega⟩ = s d := congrArg s (Fin.ext (by show d.val / 64 * 64 + d.val % 64 = d.val; omega))
  rw [hd]
  by_cases h : d.val < 64
  · have e : IntOp.cmpi .slt (BitVec.ofNat 32 d.val) 64#32 = 1#1 := (by decide : ∀ d : Fin 128, d.val < 64 → IntOp.cmpi .slt (BitVec.ofNat 32 d.val) 64#32 = 1#1) d h
    have z : d.val / 64 = 0 := by omega
    rw [e]
    simp only [z, Scalar.select, Nat.zero_mul, Nat.zero_add]
    rfl
  · have e : IntOp.cmpi .slt (BitVec.ofNat 32 d.val) 64#32 = 0#1 := (by decide : ∀ d : Fin 128, ¬d.val < 64 → IntOp.cmpi .slt (BitVec.ofNat 32 d.val) 64#32 = 0#1) d h
    have z : d.val / 64 = 1 := by omega
    rw [e]
    simp only [z, Scalar.select, Nat.one_mul]
    rfl

/-- One entry of the projection of a row. -/
def projected (x g : Fin 1024 → EReal) (w : Fin 1024 → EReal) : EReal := ∑ j, rowNorm x g j * w j

/-- Entry `d` of the projection of row `n`. -/
def entry (x : FVec Ideal ⟨2, ![32768, 1024]⟩ .f32) (g : FVec Ideal ⟨1, ![1024]⟩ .f32) (w : FVec Ideal ⟨2, ![1024, 2832]⟩ .f32) (n : Fin 32768) (d : Fin 2832) : EReal :=
  projected (fun y => x (ix2 n y)) (fun y => g (ix1 y)) (fun y => w (ix2 y d))

/-- A query or key entry: the norm of its 64 channels, which start at column `o` of the projection. -/
def headEntry (x : FVec Ideal ⟨2, ![32768, 1024]⟩ .f32) (g : FVec Ideal ⟨1, ![1024]⟩ .f32) (w : FVec Ideal ⟨2, ![1024, 2832]⟩ .f32) (h : FVec Ideal ⟨1, ![64]⟩ .f32) (o : ℕ) (ho : o ≤ 512)
    (n : Fin 32768) (d : Fin 512) : EReal :=
  channelNorm (fun j => entry x g w n ⟨o + (d.val / 64 * 64 + j.val), by omega⟩) (h (ix1 ⟨d.val % 64, by omega⟩)) ⟨d.val % 64, by omega⟩

theorem projected_congr (x x' g g' w w' : Fin 1024 → EReal) (hx : ∀ y, x y = x' y) (hg : ∀ y, g y = g' y) (hw : ∀ y, w y = w' y) :
    projected x g w = projected x' g' w' := by
  rw [funext hx, funext hg, funext hw]

theorem channels_congr (s s' : Fin 64 → EReal) (w w' : EReal) (i i' : Fin 64) (hs : ∀ x, s x = s' x) (hw : w = w') (hi : i = i') :
    channelNorm s w i = channelNorm s' w' i' := by
  rw [funext hs, hw, hi]

/-- The scale of the queries: an eighth over the logarithm of two is one over the logarithm of 256. -/
theorem query_scale (a : EReal) :
    Ideal.div (a * Ideal.ofBits .f32 0x3E000000#32) (Ideal.log (Ideal.ofBits .f32 0x40000000#32)) = a * (((Real.log 256)⁻¹ : ℝ) : EReal) := by
  have e : Real.log 256 = 8 * Real.log 2 := by
    rw [show (256 : ℝ) = 2 ^ 8 by norm_num, Real.log_pow]
    norm_num
  have h : Ideal.ofBits .f32 0x3E000000#32 = (((8 : ℝ)⁻¹ : ℝ) : EReal) := by
    simp [Ideal.ofBits, Ideal.ieee]
    rw [← EReal.coe_mul]
    norm_num
  have l : Ideal.log (Ideal.ofBits .f32 0x40000000#32) = ((Real.log 2 : ℝ) : EReal) := Attention.log_two
  have p : Real.log 2 ≠ 0 := (Real.log_pos one_lt_two).ne'
  rw [h, l, Ideal.div, if_neg (by exact_mod_cast p), ← EReal.coe_inv, mul_assoc, ← EReal.coe_mul, e, mul_inv]

end Projection

end
-- ==== Proof.Projection.Block.lean ====
/- The input projection's block at an index: the normed row, its products with the weights, the norms of the halves of a head. -/
module

public import proofs.«01_k».proof.Proof.Gen.Kernel2Ideal.Value
public import proofs.«01_k».proof.Proof.Projection.Spec
public import Idealize.ShloMosaic.Lib.Pointwise

@[expose] public section

noncomputable section

namespace Cert.Kernel2Ideal.Projection

open Cert.Kernel2Ideal Cert.Kernel2Ideal.Gen Idealize.ShloMosaic Idealize.ShloMosaic.TcCoe Idealize.SL.Sem
open _root_.Projection (rowNorm lanesNorm channelNorm projected)

theorem zero_offsets : (![0, 0] : Fin 2 → Nat) = fun _ => 0 := funext fun a => by fin_cases a <;> rfl

/-- The name of the scale of the queries stands for 1 / log 256. -/
theorem qscale : (Named.named κ "qscale" 0x3E38AA3B#32 : Ideal .f32) = (((Real.log 256)⁻¹ : ℝ) : EReal) := rfl

theorem normed_at (x : FVec Ideal S512x1024 .f32) (g : FVec Ideal S1x1024 .f32) (r : Fin 512) (j : Fin 1024) :
    k0_pay2 (F := Ideal) x g (ix2 r j) = rowNorm (fun y => x (ix2 r y)) (fun y => g (ix2 0 y)) j := by
  pointwise [k0_pay2]
  rfl

theorem product_at (x : FVec Ideal S512x1024 .f32) (g : FVec Ideal S1x1024 .f32) (w : FVec Ideal S1024x1536 .bf16) (r : Fin 512) (d : Fin 1536) :
    k0_pay3 (F := Ideal) x g w (ix2 r d) = ∑ j : Fin 1024, k0_pay2 (F := Ideal) x g (ix2 r j) * w (ix2 j d) := by
  pointwise [k0_pay3]

theorem product_z (h : FVec Ideal S512x1024 .bf16) (w : FVec Ideal S1024x512 .bf16) (r : Fin 512) (d : Fin 512) :
    k0_pay30 (F := Ideal) h (k0_pay29 w) (ix2 r d) = ∑ j : Fin 1024, h (ix2 r j) * w (ix2 j d) := by
  pointwise [k0_pay30, k0_pay29]

theorem product_xbc (h : FVec Ideal S512x1024 .bf16) (w : FVec Ideal S1024x768 .bf16) (r : Fin 512) (d : Fin 768) :
    k0_pay31 (F := Ideal) h w (ix2 r d) = ∑ j : Fin 1024, h (ix2 r j) * w (ix2 j d) := by
  pointwise [k0_pay31]

theorem product_dt (h : FVec Ideal S512x1024 .bf16) (w : FVec Ideal S1024x16 .bf16) (r : Fin 512) (d : Fin 16) :
    k0_pay32 (F := Ideal) h w (ix2 r d) = ∑ j : Fin 1024, h (ix2 r j) * w (ix2 j d) := by
  pointwise [k0_pay32]

theorem product_dtt (h : FVec Ideal S512x1024 .bf16) (w : FVec Ideal S16x1024 .bf16) (d : Fin 16) (r : Fin 512) :
    k0_pay33 (F := Ideal) h w (ix2 d r) = ∑ j : Fin 1024, w (ix2 d j) * h (ix2 r j) := by
  pointwise [k0_pay33]

/-! ## The four heads of the queries and of the keys -/

section Heads

variable (p : FVec Ideal S512x1536 .f32) (w : FVec Ideal S1x128 .f32) (r : Fin 512) (d : Fin 128)

theorem query0 (x : FVec Ideal S512x1024 .f32) (g : FVec Ideal S1x1024 .f32) (k : FVec Ideal S1024x1536 .bf16) :
    k0_pay8 (F := Ideal) (k0_pay5 x g k) (k0_pay6 w) (k0_pay7 x g k) (ix2 r d)
      = lanesNorm (fun j => k0_pay3 (F := Ideal) x g k (ix2 r ⟨j.val, by omega⟩)) (w (ix2 0 d)) d * (((Real.log 256)⁻¹ : ℝ) : EReal) := by
  rw [← qscale]
  pointwise [k0_pay8, k0_pay6, k0_pay7, k0_pay5, k0_pay4, lanesNorm]

theorem query1 :
    k0_pay13 (F := Ideal) k0_pay4 (k0_pay10 p) (k0_pay11 w) (k0_pay12 p) (Scalar.ofBits .f32 0x00000000#32) (ix2 r d)
      = lanesNorm (fun j => p (ix2 r ⟨128 + j.val, by omega⟩)) (w (ix2 0 d)) d * (((Real.log 256)⁻¹ : ℝ) : EReal) := by
  rw [← qscale]
  pointwise [k0_pay13, k0_pay10, k0_pay11, k0_pay12, k0_pay4, lanesNorm]

theorem query2 :
    k0_pay18 (F := Ideal) p k0_pay4 w (ix2 r d)
      = lanesNorm (fun j => p (ix2 r ⟨256 + j.val, by omega⟩)) (w (ix2 0 d)) d * (((Real.log 256)⁻¹ : ℝ) : EReal) := by
  rw [← qscale]
  pointwise [k0_pay18, k0_pay4, lanesNorm]

theorem query3 :
    k0_pay26 (F := Ideal) (k0_pay23 p) (k0_pay24 w) (k0_pay25 p k0_pay4) (ix2 r d)
      = lanesNorm (fun j => p (ix2 r ⟨384 + j.val, by omega⟩)) (w (ix2 0 d)) d * (((Real.log 256)⁻¹ : ℝ) : EReal) := by
  rw [← qscale]
  pointwise [k0_pay26, k0_pay23, k0_pay24, k0_pay25, k0_pay4, lanesNorm]

theorem key0 : k0_pay9 (F := Ideal) p k0_pay4 w (ix2 r d) = lanesNorm (fun j => p (ix2 r ⟨512 + j.val, by omega⟩)) (w (ix2 0 d)) d := by
  pointwise [k0_pay9, k0_pay4, lanesNorm]

theorem key1 : k0_pay17 (F := Ideal) (k0_pay14 p) (k0_pay15 w) (k0_pay16 p k0_pay4) (ix2 r d)
    = lanesNorm (fun j => p (ix2 r ⟨640 + j.val, by omega⟩)) (w (ix2 0 d)) d := by
  pointwise [k0_pay17, k0_pay14, k0_pay15, k0_pay16, k0_pay4, lanesNorm]

theorem key2 : k0_pay22 (F := Ideal) k0_pay4 (k0_pay19 p) (k0_pay20 w) (k0_pay21 p) (Scalar.ofBits .f32 0x00000000#32) (ix2 r d)
    = lanesNorm (fun j => p (ix2 r ⟨768 + j.val, by omega⟩)) (w (ix2 0 d)) d := by
  pointwise [k0_pay22, k0_pay19, k0_pay20, k0_pay21, k0_pay4, lanesNorm]

theorem key3 : k0_pay27 (F := Ideal) p k0_pay4 w (ix2 r d) = lanesNorm (fun j => p (ix2 r ⟨896 + j.val, by omega⟩)) (w (ix2 0 d)) d := by
  pointwise [k0_pay27, k0_pay4, lanesNorm]

end Heads

end Cert.Kernel2Ideal.Projection

end
-- ==== Proof.Projection.Window.lean ====
/- What a grid point of the input projection leaves in each of its seven output blocks, at an index. -/
module

public import proofs.«01_k».proof.Proof.Projection.Block

@[expose] public section

noncomputable section

namespace Cert.Kernel2Ideal.Projection

open Cert.Kernel2Ideal Cert.Kernel2Ideal.Gen Idealize.ShloMosaic Idealize.ShloMosaic.TcCoe Idealize.SL.Sem
open _root_.Projection (rowNorm lanesNorm channelNorm projected)

variable (x0 : Vec Ideal S512x1024 .f32) (x1 : Vec Ideal S1x1024 .f32) (x2 : Vec Ideal S1024x1536 .bf16) (x3 : Vec Ideal S1024x512 .bf16)
  (x4 : Vec Ideal S1024x768 .bf16) (x5 : Vec Ideal S1024x16 .bf16) (x6 : Vec Ideal S16x1024 .bf16) (x7 x8 : Vec Ideal S1x128 .f32)

/-- Entry `d` of the block's row `r` times the weights of queries, keys and values. -/
def blockProduct (r : Fin 512) (d : Fin 1536) : EReal :=
  projected (fun y => x0 (ix2 r y)) (fun y => x1 (ix2 0 y)) (fun y => x2 (ix2 y d))

theorem pay39_at (r : Fin 512) (d : Fin 1536) : k0_pay39 x0 x1 x2 x3 x4 x5 x6 x7 x8 (ix2 r d) = blockProduct x0 x1 x2 r d := by
  unfold k0_pay39
  rw [View.ld_unit_zero (S := S512x1024) zero_offsets, View.ld_unit_zero (S := S1x1024) zero_offsets, View.ld_unit_zero (S := S1024x1536) zero_offsets, product_at]
  exact Finset.sum_congr rfl fun j _ => congrArg (· * _) (normed_at x0 x1 r j)

theorem pay38_at (r : Fin 512) (j : Fin 1024) :
    k0_pay38 x0 x1 x2 x3 x4 x5 x6 x7 x8 (ix2 r j) = rowNorm (fun y => x0 (ix2 r y)) (fun y => x1 (ix2 0 y)) j := by
  unfold k0_pay38
  rw [View.ld_unit_zero (S := S512x1024) zero_offsets, View.ld_unit_zero (S := S1x1024) zero_offsets, normed_at]

/-- Column `d` of the queries' block. -/
def blockQuery (r : Fin 512) (d : Fin 512) : EReal :=
  lanesNorm (fun j => blockProduct x0 x1 x2 r ⟨d.val / 128 * 128 + j.val, by omega⟩) (x7 (ix2 0 ⟨d.val % 128, by omega⟩)) ⟨d.val % 128, by omega⟩
    * (((Real.log 256)⁻¹ : ℝ) : EReal)

/-- Column `d` of the keys' block. -/
def blockKey (r : Fin 512) (d : Fin 512) : EReal :=
  lanesNorm (fun j => blockProduct x0 x1 x2 r ⟨512 + (d.val / 128 * 128 + j.val), by omega⟩) (x8 (ix2 0 ⟨d.val % 128, by omega⟩)) ⟨d.val % 128, by omega⟩

theorem lanes_congr (s s' : Fin 128 → EReal) (w w' : EReal) (d d' : Fin 128) (hs : ∀ j, s j = s' j) (hw : w = w') (hd : d = d') :
    lanesNorm s w d = lanesNorm s' w' d' := by
  rw [funext hs, hw, hd]

/-- A block given entry by entry. -/
def blocksOf (f : Fin 512 → Fin 512 → EReal) : Vec Ideal S512x512 .bf16 := fun y => f (y 0) (y 1)

/-- Where lane `d` of head `h` lies in the block. -/
theorem head_index (h : Fin 4) (r : Fin 512) (d : Fin 128) (i : S512x512.Idx) (h0 : (i 0).val = r.val) (h1 : (i 1).val = h.val * 128 + d.val) :
    i = ix2 r ⟨h.val * 128 + d.val, by omega⟩ := by
  rw [eq_ix2 i]
  congr 1
  · exact Fin.ext h0
  · exact Fin.ext h1

theorem query_lane (h : Fin 4) (r : Fin 512) (d : Fin 128) :
    blockQuery x0 x1 x2 x7 r ⟨h.val * 128 + d.val, by omega⟩
      = lanesNorm (fun j => blockProduct x0 x1 x2 r ⟨h.val * 128 + j.val, by omega⟩) (x7 (ix2 0 d)) d * (((Real.log 256)⁻¹ : ℝ) : EReal) := by
  unfold blockQuery
  have e : (⟨(h.val * 128 + d.val) % 128, by omega⟩ : Fin 128) = d := Fin.ext (by show (h.val * 128 + d.val) % 128 = d.val; omega)
  refine congrArg (· * _) (lanes_congr _ _ _ _ _ _ (fun j => congrArg _ (Fin.ext ?_)) (by rw [e]) e)
  show (h.val * 128 + d.val) / 128 * 128 + j.val = h.val * 128 + j.val
  omega

theorem key_lane (h : Fin 4) (r : Fin 512) (d : Fin 128) :
    blockKey x0 x1 x2 x8 r ⟨h.val * 128 + d.val, by omega⟩
      = lanesNorm (fun j => blockProduct x0 x1 x2 r ⟨512 + (h.val * 128 + j.val), by omega⟩) (x8 (ix2 0 d)) d := by
  unfold blockKey
  have e : (⟨(h.val * 128 + d.val) % 128, by omega⟩ : Fin 128) = d := Fin.ext (by show (h.val * 128 + d.val) % 128 = d.val; omega)
  refine lanes_congr _ _ _ _ _ _ (fun j => congrArg _ (Fin.ext ?_)) (by rw [e]) e
  show 512 + ((h.val * 128 + d.val) / 128 * 128 + j.val) = 512 + (h.val * 128 + j.val)
  omega

/-- The queries' block: four heads, each stored as 128 lanes. -/
theorem window_query (r d : Fin 512) : out0_9 x0 x1 x2 x3 x4 x5 x6 x7 x8 (ix2 r d) = blockQuery x0 x1 x2 x7 r d := by
  unfold out0_9
  refine View.canon_apply_of_pieces (Val := Elt Ideal) (blocksOf (blockQuery x0 x1 x2 x7)) _ ?_ (ix2 r d) (cover0_9 _ _ _ _ _)
  intro pc hpc
  rw [View.ld_unit_zero (S := S1x128) zero_offsets] at hpc
  rcases List.mem_cons.mp hpc with rfl | hpc
  · intro x
    obtain ⟨r, d, rfl⟩ : ∃ r d, x = ix2 r d := ⟨x 0, x 1, eq_ix2 x⟩
    show _ = blocksOf (blockQuery x0 x1 x2 x7) (r0_7.emb (ix2 r d))
    rw [head_index 3 r d (r0_7.emb (ix2 r d)) (by show 0 + 1 * r.val = r.val; omega) (by show 384 + 1 * d.val = 3 * 128 + d.val; omega)]
    refine (query3 _ _ r d).trans (Eq.trans ?_ (query_lane x0 x1 x2 x7 3 r d).symm)
    exact congrArg (· * _) (lanes_congr _ _ _ _ _ _ (fun j => pay39_at x0 x1 x2 x3 x4 x5 x6 x7 x8 r _) rfl rfl)
  rcases List.mem_cons.mp hpc with rfl | hpc
  · intro x
    obtain ⟨r, d, rfl⟩ : ∃ r d, x = ix2 r d := ⟨x 0, x 1, eq_ix2 x⟩
    show _ = blocksOf (blockQuery x0 x1 x2 x7) (r0_6.emb (ix2 r d))
    rw [head_index 2 r d (r0_6.emb (ix2 r d)) (by show 0 + 1 * r.val = r.val; omega) (by show 256 + 1 * d.val = 2 * 128 + d.val; omega)]
    refine (query2 _ _ r d).trans (Eq.trans ?_ (query_lane x0 x1 x2 x7 2 r d).symm)
    exact congrArg (· * _) (lanes_congr _ _ _ _ _ _ (fun j => pay39_at x0 x1 x2 x3 x4 x5 x6 x7 x8 r _) rfl rfl)
  rcases List.mem_cons.mp hpc with rfl | hpc
  · intro x
    obtain ⟨r, d, rfl⟩ : ∃ r d, x = ix2 r d := ⟨x 0, x 1, eq_ix2 x⟩
    show _ = blocksOf (blockQuery x0 x1 x2 x7) (r0_5.emb (ix2 r d))
    rw [head_index 1 r d (r0_5.emb (ix2 r d)) (by show 0 + 1 * r.val = r.val; omega) (by show 128 + 1 * d.val = 1 * 128 + d.val; omega)]
    refine (query1 _ _ r d).trans (Eq.trans ?_ (query_lane x0 x1 x2 x7 1 r d).symm)
    exact congrArg (· * _) (lanes_congr _ _ _ _ _ _ (fun j => pay39_at x0 x1 x2 x3 x4 x5 x6 x7 x8 r _) rfl rfl)
  rcases List.mem_cons.mp hpc with rfl | hpc
  · intro x
    obtain ⟨r, d, rfl⟩ : ∃ r d, x = ix2 r d := ⟨x 0, x 1, eq_ix2 x⟩
    show _ = blocksOf (blockQuery x0 x1 x2 x7) (r0_4.emb (ix2 r d))
    rw [head_index 0 r d (r0_4.emb (ix2 r d)) (by show 0 + 1 * r.val = r.val; omega) (by show 0 + 1 * d.val = 0 * 128 + d.val; omega)]
    refine (query0 _ r d _ _ _).trans (Eq.trans ?_ (query_lane x0 x1 x2 x7 0 r d).symm)
    refine congrArg (· * _) (lanes_congr _ _ _ _ _ _ (fun j => (pay39_at x0 x1 x2 x3 x4 x5 x6 x7 x8 r _).trans ?_) rfl rfl)
    exact congrArg _ (Fin.ext (by show j.val = 0 * 128 + j.val; omega))
  nomatch hpc

/-- The keys' block. -/
theorem window_key (r d : Fin 512) : out0_10 x0 x1 x2 x3 x4 x5 x6 x7 x8 (ix2 r d) = blockKey x0 x1 x2 x8 r d := by
  unfold out0_10
  refine View.canon_apply_of_pieces (Val := Elt Ideal) (blocksOf (blockKey x0 x1 x2 x8)) _ ?_ (ix2 r d) (cover0_10 _ _ _ _ _)
  intro pc hpc
  rw [View.ld_unit_zero (S := S1x128) zero_offsets] at hpc
  rcases List.mem_cons.mp hpc with rfl | hpc
  · intro x
    obtain ⟨r, d, rfl⟩ : ∃ r d, x = ix2 r d := ⟨x 0, x 1, eq_ix2 x⟩
    show _ = blocksOf (blockKey x0 x1 x2 x8) (r0_7.emb (ix2 r d))
    rw [head_index 3 r d (r0_7.emb (ix2 r d)) (by show 0 + 1 * r.val = r.val; omega) (by show 384 + 1 * d.val = 3 * 128 + d.val; omega)]
    refine (key3 _ _ r d).trans (Eq.trans ?_ (key_lane x0 x1 x2 x8 3 r d).symm)
    exact lanes_congr _ _ _ _ _ _ (fun j => (pay39_at x0 x1 x2 x3 x4 x5 x6 x7 x8 r _).trans (congrArg _ (Fin.ext (by show 896 + j.val = 512 + (3 * 128 + j.val); omega)))) rfl rfl
  rcases List.mem_cons.mp hpc with rfl | hpc
  · intro x
    obtain ⟨r, d, rfl⟩ : ∃ r d, x = ix2 r d := ⟨x 0, x 1, eq_ix2 x⟩
    show _ = blocksOf (blockKey x0 x1 x2 x8) (r0_6.emb (ix2 r d))
    rw [head_index 2 r d (r0_6.emb (ix2 r d)) (by show 0 + 1 * r.val = r.val; omega) (by show 256 + 1 * d.val = 2 * 128 + d.val; omega)]
    refine (key2 _ _ r d).trans (Eq.trans ?_ (key_lane x0 x1 x2 x8 2 r d).symm)
    exact lanes_congr _ _ _ _ _ _ (fun j => (pay39_at x0 x1 x2 x3 x4 x5 x6 x7 x8 r _).trans (congrArg _ (Fin.ext (by show 768 + j.val = 512 + (2 * 128 + j.val); omega)))) rfl rfl
  rcases List.mem_cons.mp hpc with rfl | hpc
  · intro x
    obtain ⟨r, d, rfl⟩ : ∃ r d, x = ix2 r d := ⟨x 0, x 1, eq_ix2 x⟩
    show _ = blocksOf (blockKey x0 x1 x2 x8) (r0_5.emb (ix2 r d))
    rw [head_index 1 r d (r0_5.emb (ix2 r d)) (by show 0 + 1 * r.val = r.val; omega) (by show 128 + 1 * d.val = 1 * 128 + d.val; omega)]
    refine (key1 _ _ r d).trans (Eq.trans ?_ (key_lane x0 x1 x2 x8 1 r d).symm)
    exact lanes_congr _ _ _ _ _ _ (fun j => (pay39_at x0 x1 x2 x3 x4 x5 x6 x7 x8 r _).trans (congrArg _ (Fin.ext (by show 640 + j.val = 512 + (1 * 128 + j.val); omega)))) rfl rfl
  rcases List.mem_cons.mp hpc with rfl | hpc
  · intro x
    obtain ⟨r, d, rfl⟩ : ∃ r d, x = ix2 r d := ⟨x 0, x 1, eq_ix2 x⟩
    show _ = blocksOf (blockKey x0 x1 x2 x8) (r0_4.emb (ix2 r d))
    rw [head_index 0 r d (r0_4.emb (ix2 r d)) (by show 0 + 1 * r.val = r.val; omega) (by show 0 + 1 * d.val = 0 * 128 + d.val; omega)]
    refine (key0 _ _ r d).trans (Eq.trans ?_ (key_lane x0 x1 x2 x8 0 r d).symm)
    exact lanes_congr _ _ _ _ _ _ (fun j => (pay39_at x0 x1 x2 x3 x4 x5 x6 x7 x8 r _).trans (congrArg _ (Fin.ext (by show 512 + j.val = 512 + (0 * 128 + j.val); omega)))) rfl rfl
  nomatch hpc

/-- The values' block: the last third of the product. -/
theorem window_value (r d : Fin 512) : out0_11 x0 x1 x2 x3 x4 x5 x6 x7 x8 (ix2 r d) = blockProduct x0 x1 x2 r ⟨1024 + d.val, by omega⟩ := by
  unfold out0_11
  rw [View.canon_unit_zero zero_offsets]
  rw [← pay39_at x0 x1 x2 x3 x4 x5 x6 x7 x8]
  generalize k0_pay39 x0 x1 x2 x3 x4 x5 x6 x7 x8 = p
  pointwise [k0_pay28]

theorem window_z (r d : Fin 512) :
    out0_12 x0 x1 x2 x3 x4 x5 x6 x7 x8 (ix2 r d) = projected (fun y => x0 (ix2 r y)) (fun y => x1 (ix2 0 y)) (fun y => x3 (ix2 y d)) := by
  unfold out0_12
  rw [View.canon_unit_zero zero_offsets, View.ld_unit_zero (S := S1024x512) zero_offsets, product_z]
  exact Finset.sum_congr rfl fun j _ => congrArg (· * _) (pay38_at x0 x1 x2 x3 x4 x5 x6 x7 x8 r j)

theorem window_xbc (r : Fin 512) (d : Fin 768) :
    out0_13 x0 x1 x2 x3 x4 x5 x6 x7 x8 (ix2 r d) = projected (fun y => x0 (ix2 r y)) (fun y => x1 (ix2 0 y)) (fun y => x4 (ix2 y d)) := by
  unfold out0_13
  rw [View.canon_unit_zero zero_offsets, View.ld_unit_zero (S := S1024x768) zero_offsets, product_xbc]
  exact Finset.sum_congr rfl fun j _ => congrArg (· * _) (pay38_at x0 x1 x2 x3 x4 x5 x6 x7 x8 r j)

theorem window_dt (r : Fin 512) (d : Fin 16) :
    out0_14 x0 x1 x2 x3 x4 x5 x6 x7 x8 (ix2 r d) = projected (fun y => x0 (ix2 r y)) (fun y => x1 (ix2 0 y)) (fun y => x5 (ix2 y d)) := by
  unfold out0_14
  rw [View.canon_unit_zero zero_offsets, View.ld_unit_zero (S := S1024x16) zero_offsets, product_dt]
  exact Finset.sum_congr rfl fun j _ => congrArg (· * _) (pay38_at x0 x1 x2 x3 x4 x5 x6 x7 x8 r j)

/-- The transposed steps: four chunks of 128 rows. -/
theorem window_dtt (g : Fin 4) (d : Fin 16) (l : Fin 128) :
    out0_15 x0 x1 x2 x3 x4 x5 x6 x7 x8 (ix3 g d l)
      = projected (fun y => x0 (ix2 ⟨g.val * 128 + l.val, by omega⟩ y)) (fun y => x1 (ix2 0 y)) (fun y => x6 (ix2 d y)) := by
  unfold out0_15 k0_pay38
  rw [View.ld_unit_zero (S := S512x1024) zero_offsets, View.ld_unit_zero (S := S1x1024) zero_offsets, View.ld_unit_zero (S := S16x1024) zero_offsets,
    Value.canon15_eq]
  have e : Value.E15 x0 x1 x6 (ix3 g d l) = k0_pay33 (F := Ideal) (k0_pay2 x0 x1) x6 (ix2 d ⟨g.val * 128 + l.val, by omega⟩) := by
    have i : Value.ix15_0 (ix3 g d l) = ix2 d ⟨g.val * 128 + l.val, by omega⟩ := by
      funext a
      match a with
      | ⟨0, _⟩ => rfl
      | ⟨1, _⟩ => rfl
    rw [← i]
    rfl
  rw [e, product_dtt]
  exact Finset.sum_congr rfl fun j _ => (mul_comm _ _).trans (congrArg (· * _) (normed_at x0 x1 _ j))

end Cert.Kernel2Ideal.Projection

end
-- ==== Proof.Projection.Array.lean ====
/- The input projection's seven arrays at an index: the grid point that writes it, the blocks that point reads, the operands the host prepares. -/
module

public import proofs.«01_k».proof.Proof.Projection.Window

@[expose] public section

noncomputable section

namespace Cert.Kernel2Ideal.Projection

open Cert.Kernel2Ideal Cert.Kernel2Ideal.Gen Cert.Kernel2Ideal.Value Idealize.ShloMosaic Idealize.ShloMosaic.TcCoe Idealize.SL.Sem
open _root_.Projection (rowNorm lanesNorm channelNorm projected entry headEntry projected_congr channels_congr)

variable (m : (ℓ : Loc nD τ sig) → Buf (Elt Ideal) ℓ) (c : Dev nD)

theorem point_lt (t : Fin cfg0.N) : t.val < 64 := lt_of_lt_of_eq t.isLt N_0

/-- The grid point that works on row `n`. -/
def pointOf (n : Fin 32768) : Fin cfg0.N := ⟨n.val / 512, lt_of_lt_of_eq (by omega : n.val / 512 < 64) N_0.symm⟩

/-! ## The blocks a point reads: its 512 rows, and the other operands whole -/

theorem read_rows (n : Fin 32768) (y : Fin 1024) :
    (iblk m c 0 (pointOf n) : Vec Ideal S512x1024 .f32) (ix2 ⟨n.val % 512, by omega⟩ y) = V m c main_arg0 (ix2 n y) := by
  have e : ∀ t : Fin cfg0.N, win0_0.index t (0 : Fin 2) = t.val ∧ win0_0.index t (1 : Fin 2) = 0 := (by decide +kernel : ∀ t : Fin grid0.N, _)
  unfold iblk
  rw [View.read_apply]
  show V m c main_arg0 _ = V m c main_arg0 _
  congr 1
  funext a
  apply Fin.ext
  match a with
  | ⟨0, _⟩ => show win0_0.index (pointOf n) 0 * 512 + 1 * (n.val % 512) = n.val; rw [(e (pointOf n)).1]; show n.val / 512 * 512 + _ = _; omega
  | ⟨1, _⟩ => show win0_0.index (pointOf n) 1 * 1024 + 1 * y.val = y.val; rw [(e (pointOf n)).2]; omega

theorem read_norm (t : Fin cfg0.N) : (iblk m c 1 t : Vec Ideal S1x1024 .f32) = V m c main_v5 := by
  have e : ∀ t : Fin cfg0.N, win0_1.index t (0 : Fin 2) = 0 ∧ win0_1.index t (1 : Fin 2) = 0 := (by decide +kernel : ∀ t : Fin grid0.N, _)
  funext x
  unfold iblk
  rw [View.read_apply]
  show V m c main_v5 _ = V m c main_v5 _
  congr 1
  funext a
  apply Fin.ext
  match a with
  | ⟨0, _⟩ => show win0_1.index t 0 * 1 + 1 * (x 0).val = (x 0).val; rw [(e t).1]; omega
  | ⟨1, _⟩ => show win0_1.index t 1 * 1024 + 1 * (x 1).val = (x 1).val; rw [(e t).2]; omega

theorem read_w (t : Fin cfg0.N) : (iblk m c 2 t : Vec Ideal S1024x1536 .bf16) = V m c main_v1 := by
  have e : ∀ t : Fin cfg0.N, win0_2.index t (0 : Fin 2) = 0 ∧ win0_2.index t (1 : Fin 2) = 0 := (by decide +kernel : ∀ t : Fin grid0.N, _)
  funext x
  unfold iblk
  rw [View.read_apply]
  show V m c main_v1 _ = V m c main_v1 _
  congr 1
  funext a
  apply Fin.ext
  match a with
  | ⟨0, _⟩ => show win0_2.index t 0 * 1024 + 1 * (x 0).val = (x 0).val; rw [(e t).1]; omega
  | ⟨1, _⟩ => show win0_2.index t 1 * 1536 + 1 * (x 1).val = (x 1).val; rw [(e t).2]; omega

theorem read_wz (t : Fin cfg0.N) : (iblk m c 3 t : Vec Ideal S1024x512 .bf16) = V m c main_v2 := by
  have e : ∀ t : Fin cfg0.N, win0_3.index t (0 : Fin 2) = 0 ∧ win0_3.index t (1 : Fin 2) = 0 := (by decide +kernel : ∀ t : Fin grid0.N, _)
  funext x
  unfold iblk
  rw [View.read_apply]
  show V m c main_v2 _ = V m c main_v2 _
  congr 1
  funext a
  apply Fin.ext
  match a with
  | ⟨0, _⟩ => show win0_3.index t 0 * 1024 + 1 * (x 0).val = (x 0).val; rw [(e t).1]; omega
  | ⟨1, _⟩ => show win0_3.index t 1 * 512 + 1 * (x 1).val = (x 1).val; rw [(e t).2]; omega

theorem read_wxbc (t : Fin cfg0.N) : (iblk m c 4 t : Vec Ideal S1024x768 .bf16) = V m c main_v3 := by
  have e : ∀ t : Fin cfg0.N, win0_4.index t (0 : Fin 2) = 0 ∧ win0_4.index t (1 : Fin 2) = 0 := (by decide +kernel : ∀ t : Fin grid0.N, _)
  funext x
  unfold iblk
  rw [View.read_apply]
  show V m c main_v3 _ = V m c main_v3 _
  congr 1
  funext a
  apply Fin.ext
  match a with
  | ⟨0, _⟩ => show win0_4.index t 0 * 1024 + 1 * (x 0).val = (x 0).val; rw [(e t).1]; omega
  | ⟨1, _⟩ => show win0_4.index t 1 * 768 + 1 * (x 1).val = (x 1).val; rw [(e t).2]; omega

theorem read_wdt (t : Fin cfg0.N) : (iblk m c 5 t : Vec Ideal S1024x16 .bf16) = V m c main_v4 := by
  have e : ∀ t : Fin cfg0.N, win0_5.index t (0 : Fin 2) = 0 ∧ win0_5.index t (1 : Fin 2) = 0 := (by decide +kernel : ∀ t : Fin grid0.N, _)
  funext x
  unfold iblk
  rw [View.read_apply]
  show V m c main_v4 _ = V m c main_v4 _
  congr 1
  funext a
  apply Fin.ext
  match a with
  | ⟨0, _⟩ => show win0_5.index t 0 * 1024 + 1 * (x 0).val = (x 0).val; rw [(e t).1]; omega
  | ⟨1, _⟩ => show win0_5.index t 1 * 16 + 1 * (x 1).val = (x 1).val; rw [(e t).2]; omega

theorem read_wdtt (t : Fin cfg0.N) : (iblk m c 6 t : Vec Ideal S16x1024 .bf16) = V m c main_v6 := by
  have e : ∀ t : Fin cfg0.N, win0_6.index t (0 : Fin 2) = 0 ∧ win0_6.index t (1 : Fin 2) = 0 := (by decide +kernel : ∀ t : Fin grid0.N, _)
  funext x
  unfold iblk
  rw [View.read_apply]
  show V m c main_v6 _ = V m c main_v6 _
  congr 1
  funext a
  apply Fin.ext
  match a with
  | ⟨0, _⟩ => show win0_6.index t 0 * 16 + 1 * (x 0).val = (x 0).val; rw [(e t).1]; omega
  | ⟨1, _⟩ => show win0_6.index t 1 * 1024 + 1 * (x 1).val = (x 1).val; rw [(e t).2]; omega

theorem read_qnorm (t : Fin cfg0.N) : (iblk m c 7 t : Vec Ideal S1x128 .f32) = V m c main_v10 := by
  have e : ∀ t : Fin cfg0.N, win0_7.index t (0 : Fin 2) = 0 ∧ win0_7.index t (1 : Fin 2) = 0 := (by decide +kernel : ∀ t : Fin grid0.N, _)
  funext x
  unfold iblk
  rw [View.read_apply]
  show V m c main_v10 _ = V m c main_v10 _
  congr 1
  funext a
  apply Fin.ext
  match a with
  | ⟨0, _⟩ => show win0_7.index t 0 * 1 + 1 * (x 0).val = (x 0).val; rw [(e t).1]; omega
  | ⟨1, _⟩ => show win0_7.index t 1 * 128 + 1 * (x 1).val = (x 1).val; rw [(e t).2]; omega

theorem read_knorm (t : Fin cfg0.N) : (iblk m c 8 t : Vec Ideal S1x128 .f32) = V m c main_v14 := by
  have e : ∀ t : Fin cfg0.N, win0_8.index t (0 : Fin 2) = 0 ∧ win0_8.index t (1 : Fin 2) = 0 := (by decide +kernel : ∀ t : Fin grid0.N, _)
  funext x
  unfold iblk
  rw [View.read_apply]
  show V m c main_v14 _ = V m c main_v14 _
  congr 1
  funext a
  apply Fin.ext
  match a with
  | ⟨0, _⟩ => show win0_8.index t 0 * 1 + 1 * (x 0).val = (x 0).val; rw [(e t).1]; omega
  | ⟨1, _⟩ => show win0_8.index t 1 * 128 + 1 * (x 1).val = (x 1).val; rw [(e t).2]; omega

/-! ## The operands the host prepares -/

/-- The rows, the scale of their norm, the weights and the scales of the head norms as launched. -/
def argRows : FVec Ideal S32768x1024 .f32 := m (c.tc.loc main_arg0)
def argNorm : FVec Ideal S1024 .f32 := m (c.tc.loc main_arg1)
def argWeights : FVec Ideal S1024x2832 .f32 := m (c.tc.loc main_arg2)
def argQueryNorm : FVec Ideal S64 .f32 := m (c.tc.loc main_arg3)
def argKeyNorm : FVec Ideal S64 .f32 := m (c.tc.loc main_arg4)

theorem host_rows : (V m c main_arg0 : FVec Ideal S32768x1024 .f32) = argRows m c := by
  show StableHlo.after hostOps0 (fun b => m (c, b)) (Proc.devRef .tc main_arg0) = _
  unfold hostOps0
  after_results
  rfl

theorem host_norm (y : Fin 1024) : (V m c main_v5 : FVec Ideal S1x1024 .f32) (ix2 0 y) = argNorm m c (ix1 y) := by
  have e : (V m c main_v5 : FVec Ideal S1x1024 .f32) = shapeCast S1x1024 (argNorm m c) shapeCasts_S1024_S1x1024 := by
    show StableHlo.after hostOps0 (fun b => m (c, b)) (Proc.devRef .tc main_v5) = _
    unfold hostOps0
    after_results
    rfl
  rw [e]
  pointwise

theorem host_w (y : Fin 1024) (d : Fin 1536) :
    (V m c main_v1 : FVec Ideal S1024x1536 .bf16) (ix2 y d) = argWeights m c (ix2 y ⟨d.val, by omega⟩) := by
  have e : (V m c main_v1 : FVec Ideal S1024x1536 .bf16)
      = extractStridedSlice S1024x1536 ![0, 0] (truncf .bf16 (argWeights m c) bitsLt_bf16_f32) slices_S1024x2832_S1024x1536_0_0 := by
    show StableHlo.after hostOps0 (fun b => m (c, b)) (Proc.devRef .tc main_v1) = _
    unfold hostOps0
    after_results
    rfl
  rw [e]
  pointwise

theorem host_wz (y : Fin 1024) (d : Fin 512) :
    (V m c main_v2 : FVec Ideal S1024x512 .bf16) (ix2 y d) = argWeights m c (ix2 y ⟨1536 + d.val, by omega⟩) := by
  have e : (V m c main_v2 : FVec Ideal S1024x512 .bf16)
      = extractStridedSlice S1024x512 ![0, 1536] (truncf .bf16 (argWeights m c) bitsLt_bf16_f32) slices_S1024x2832_S1024x512_0_1536 := by
    show StableHlo.after hostOps0 (fun b => m (c, b)) (Proc.devRef .tc main_v2) = _
    unfold hostOps0
    after_results
    rfl
  rw [e]
  pointwise

theorem host_wxbc (y : Fin 1024) (d : Fin 768) :
    (V m c main_v3 : FVec Ideal S1024x768 .bf16) (ix2 y d) = argWeights m c (ix2 y ⟨2048 + d.val, by omega⟩) := by
  have e : (V m c main_v3 : FVec Ideal S1024x768 .bf16)
      = extractStridedSlice S1024x768 ![0, 2048] (truncf .bf16 (argWeights m c) bitsLt_bf16_f32) slices_S1024x2832_S1024x768_0_2048 := by
    show StableHlo.after hostOps0 (fun b => m (c, b)) (Proc.devRef .tc main_v3) = _
    unfold hostOps0
    after_results
    rfl
  rw [e]
  pointwise

theorem host_wdt (y : Fin 1024) (d : Fin 16) :
    (V m c main_v4 : FVec Ideal S1024x16 .bf16) (ix2 y d) = argWeights m c (ix2 y ⟨2816 + d.val, by omega⟩) := by
  have e : (V m c main_v4 : FVec Ideal S1024x16 .bf16)
      = extractStridedSlice S1024x16 ![0, 2816] (truncf .bf16 (argWeights m c) bitsLt_bf16_f32) slices_S1024x2832_S1024x16_0_2816 := by
    show StableHlo.after hostOps0 (fun b => m (c, b)) (Proc.devRef .tc main_v4) = _
    unfold hostOps0
    after_results
    rfl
  rw [e]
  pointwise

theorem host_wdtt (y : Fin 1024) (d : Fin 16) :
    (V m c main_v6 : FVec Ideal S16x1024 .bf16) (ix2 d y) = argWeights m c (ix2 y ⟨2816 + d.val, by omega⟩) := by
  have e : (V m c main_v6 : FVec Ideal S16x1024 .bf16)
      = transpose S16x1024 [1, 0] (extractStridedSlice S1024x16 ![0, 2816] (truncf .bf16 (argWeights m c) bitsLt_bf16_f32)
          slices_S1024x2832_S1024x16_0_2816) transposes_S1024x16_S16x1024_1_0 := by
    show StableHlo.after hostOps0 (fun b => m (c, b)) (Proc.devRef .tc main_v6) = _
    unfold hostOps0
    after_results
    rfl
  rw [e]
  pointwise

/-- The scale of 64 channels, repeated for the two maps of a head. -/
theorem host_qnorm (d : Fin 128) : (V m c main_v10 : FVec Ideal S1x128 .f32) (ix2 0 d) = argQueryNorm m c (ix1 ⟨d.val % 64, by omega⟩) := by
  have e : (V m c main_v10 : FVec Ideal S1x128 .f32) = shapeCast S1x128 (shapeCast S128 (broadcastInDim S2x64 ![0, 1] bcast_S1x64_S2x64_0_1
      (shapeCast S1x64 (argQueryNorm m c) shapeCasts_S64_S1x64)) shapeCasts_S2x64_S128) shapeCasts_S128_S1x128 := by
    show StableHlo.after hostOps0 (fun b => m (c, b)) (Proc.devRef .tc main_v10) = _
    unfold hostOps0
    after_results
    rfl
  rw [e]
  pointwise

theorem host_knorm (d : Fin 128) : (V m c main_v14 : FVec Ideal S1x128 .f32) (ix2 0 d) = argKeyNorm m c (ix1 ⟨d.val % 64, by omega⟩) := by
  have e : (V m c main_v14 : FVec Ideal S1x128 .f32) = shapeCast S1x128 (shapeCast S128 (broadcastInDim S2x64 ![0, 1] bcast_S1x64_S2x64_0_1
      (shapeCast S1x64 (argKeyNorm m c) shapeCasts_S64_S1x64)) shapeCasts_S2x64_S128) shapeCasts_S128_S1x128 := by
    show StableHlo.after hostOps0 (fun b => m (c, b)) (Proc.devRef .tc main_v14) = _
    unfold hostOps0
    after_results
    rfl
  rw [e]
  pointwise

/-! ## The arrays -/

theorem block_rows (n : Fin 32768) (y : Fin 1024) :
    (iblk m c 0 (pointOf n) : Vec Ideal S512x1024 .f32) (ix2 ⟨n.val % 512, by omega⟩ y) = argRows m c (ix2 n y) := by
  rw [read_rows, host_rows]

theorem block_norm (t : Fin cfg0.N) (y : Fin 1024) : (iblk m c 1 t : Vec Ideal S1x1024 .f32) (ix2 0 y) = argNorm m c (ix1 y) := by
  rw [read_norm, host_norm]

theorem blockProduct_eq (n : Fin 32768) (d : Fin 1536) :
    blockProduct (iblk m c 0 (pointOf n)) (iblk m c 1 (pointOf n)) (iblk m c 2 (pointOf n)) ⟨n.val % 512, by omega⟩ d
      = entry (argRows m c) (argNorm m c) (argWeights m c) n ⟨d.val, by omega⟩ := by
  refine projected_congr _ _ _ _ _ _ (block_rows m c n) (block_norm m c _) fun y => ?_
  rw [read_w]
  exact host_w m c y d

theorem block_query (n : Fin 32768) (d : Fin 512) :
    blockQuery (iblk m c 0 (pointOf n)) (iblk m c 1 (pointOf n)) (iblk m c 2 (pointOf n)) (iblk m c 7 (pointOf n)) ⟨n.val % 512, by omega⟩ d
      = headEntry (argRows m c) (argNorm m c) (argWeights m c) (argQueryNorm m c) 0 (by omega) n d * (((Real.log 256)⁻¹ : ℝ) : EReal) := by
  unfold blockQuery headEntry
  rw [_root_.Projection.lanesNorm_eq, read_qnorm, host_qnorm]
  refine congrArg (· * _) (channels_congr _ _ _ _ _ _ (fun x => ?_) (congrArg _ (congrArg ix1 (Fin.ext ?_))) (Fin.ext ?_))
  · dsimp only
    rw [blockProduct_eq]
    refine congrArg _ (Fin.ext ?_)
    show d.val / 128 * 128 + (d.val % 128 / 64 * 64 + x.val) = 0 + (d.val / 64 * 64 + x.val)
    omega
  · show d.val % 128 % 64 = d.val % 64
    omega
  · show d.val % 128 % 64 = d.val % 64
    omega

theorem block_key (n : Fin 32768) (d : Fin 512) :
    blockKey (iblk m c 0 (pointOf n)) (iblk m c 1 (pointOf n)) (iblk m c 2 (pointOf n)) (iblk m c 8 (pointOf n)) ⟨n.val % 512, by omega⟩ d
      = headEntry (argRows m c) (argNorm m c) (argWeights m c) (argKeyNorm m c) 512 (by omega) n d := by
  unfold blockKey headEntry
  rw [_root_.Projection.lanesNorm_eq, read_knorm, host_knorm]
  refine channels_congr _ _ _ _ _ _ (fun x => ?_) (congrArg _ (congrArg ix1 (Fin.ext ?_))) (Fin.ext ?_)
  · dsimp only
    rw [blockProduct_eq]
    refine congrArg _ (Fin.ext ?_)
    show 512 + (d.val / 128 * 128 + (d.val % 128 / 64 * 64 + x.val)) = 512 + (d.val / 64 * 64 + x.val)
    omega
  · show d.val % 128 % 64 = d.val % 64
    omega
  · show d.val % 128 % 64 = d.val % 64
    omega

/-- The queries. -/
theorem array_query (n : Fin 32768) (d : Fin 512) :
    ((dats m 0 c).arrAt 9 cfg0.N : FVec Ideal S32768x512 .bf16) (ix2 n d)
      = headEntry (argRows m c) (argNorm m c) (argWeights m c) (argQueryNorm m c) 0 (by omega) n d * (((Real.log 256)⁻¹ : ℝ) : EReal) := by
  have e : ∀ t : Fin cfg0.N, win0_9.index t (0 : Fin 2) = t.val ∧ win0_9.index t (1 : Fin 2) = 0 := (by decide +kernel : ∀ t : Fin grid0.N, _)
  have h := congrFun (blocks9 m c (pointOf n) (flush0_9 _)) (ix2 ⟨n.val % 512, by omega⟩ d)
  rw [View.read_apply, flushed9] at h
  have i : ((cfg0.win 9).blk (pointOf n)).view.emb (ix2 (⟨n.val % 512, by omega⟩ : Fin 512) d) = (ix2 n d : S32768x512.Idx) := by
    funext a
    apply Fin.ext
    match a with
    | ⟨0, _⟩ => show win0_9.index (pointOf n) 0 * 512 + 1 * (n.val % 512) = n.val; rw [(e _).1]; show n.val / 512 * 512 + _ = _; omega
    | ⟨1, _⟩ => show win0_9.index (pointOf n) 1 * 512 + 1 * d.val = d.val; rw [(e _).2]; omega
  rw [← i]
  refine h.trans ?_
  exact (window_query _ _ _ _ _ _ _ _ _ _ _).trans (block_query m c n d)

/-- The keys. -/
theorem array_key (n : Fin 32768) (d : Fin 512) :
    ((dats m 0 c).arrAt 10 cfg0.N : FVec Ideal S32768x512 .bf16) (ix2 n d)
      = headEntry (argRows m c) (argNorm m c) (argWeights m c) (argKeyNorm m c) 512 (by omega) n d := by
  have e : ∀ t : Fin cfg0.N, win0_10.index t (0 : Fin 2) = t.val ∧ win0_10.index t (1 : Fin 2) = 0 := (by decide +kernel : ∀ t : Fin grid0.N, _)
  have h := congrFun (blocks10 m c (pointOf n) (flush0_10 _)) (ix2 ⟨n.val % 512, by omega⟩ d)
  rw [View.read_apply, flushed10] at h
  have i : ((cfg0.win 10).blk (pointOf n)).view.emb (ix2 (⟨n.val % 512, by omega⟩ : Fin 512) d) = (ix2 n d : S32768x512.Idx) := by
    funext a
    apply Fin.ext
    match a with
    | ⟨0, _⟩ => show win0_10.index (pointOf n) 0 * 512 + 1 * (n.val % 512) = n.val; rw [(e _).1]; show n.val / 512 * 512 + _ = _; omega
    | ⟨1, _⟩ => show win0_10.index (pointOf n) 1 * 512 + 1 * d.val = d.val; rw [(e _).2]; omega
  rw [← i]
  refine h.trans ?_
  exact (window_key _ _ _ _ _ _ _ _ _ _ _).trans (block_key m c n d)

/-- The values. -/
theorem array_value (n : Fin 32768) (d : Fin 512) :
    ((dats m 0 c).arrAt 11 cfg0.N : FVec Ideal S32768x512 .bf16) (ix2 n d)
      = entry (argRows m c) (argNorm m c) (argWeights m c) n ⟨1024 + d.val, by omega⟩ := by
  have e : ∀ t : Fin cfg0.N, win0_11.index t (0 : Fin 2) = t.val ∧ win0_11.index t (1 : Fin 2) = 0 := (by decide +kernel : ∀ t : Fin grid0.N, _)
  have h := congrFun (blocks11 m c (pointOf n) (flush0_11 _)) (ix2 ⟨n.val % 512, by omega⟩ d)
  rw [View.read_apply, flushed11] at h
  have i : ((cfg0.win 11).blk (pointOf n)).view.emb (ix2 (⟨n.val % 512, by omega⟩ : Fin 512) d) = (ix2 n d : S32768x512.Idx) := by
    funext a
    apply Fin.ext
    match a with
    | ⟨0, _⟩ => show win0_11.index (pointOf n) 0 * 512 + 1 * (n.val % 512) = n.val; rw [(e _).1]; show n.val / 512 * 512 + _ = _; omega
    | ⟨1, _⟩ => show win0_11.index (pointOf n) 1 * 512 + 1 * d.val = d.val; rw [(e _).2]; omega
  rw [← i]
  refine h.trans ?_
  exact (window_value _ _ _ _ _ _ _ _ _ _ _).trans (blockProduct_eq m c n _)

/-- The gate of the recurrence. -/
theorem array_z (n : Fin 32768) (d : Fin 512) :
    ((dats m 0 c).arrAt 12 cfg0.N : FVec Ideal S32768x512 .bf16) (ix2 n d)
      = entry (argRows m c) (argNorm m c) (argWeights m c) n ⟨1536 + d.val, by omega⟩ := by
  have e : ∀ t : Fin cfg0.N, win0_12.index t (0 : Fin 2) = t.val ∧ win0_12.index t (1 : Fin 2) = 0 := (by decide +kernel : ∀ t : Fin grid0.N, _)
  have h := congrFun (blocks12 m c (pointOf n) (flush0_12 _)) (ix2 ⟨n.val % 512, by omega⟩ d)
  rw [View.read_apply, flushed12] at h
  have i : ((cfg0.win 12).blk (pointOf n)).view.emb (ix2 (⟨n.val % 512, by omega⟩ : Fin 512) d) = (ix2 n d : S32768x512.Idx) := by
    funext a
    apply Fin.ext
    match a with
    | ⟨0, _⟩ => show win0_12.index (pointOf n) 0 * 512 + 1 * (n.val % 512) = n.val; rw [(e _).1]; show n.val / 512 * 512 + _ = _; omega
    | ⟨1, _⟩ => show win0_12.index (pointOf n) 1 * 512 + 1 * d.val = d.val; rw [(e _).2]; omega
  rw [← i]
  refine h.trans ?_
  refine (window_z _ _ _ _ _ _ _ _ _ _ _).trans (projected_congr _ _ _ _ _ _ (block_rows m c n) (block_norm m c _) fun y => ?_)
  rw [read_wz]
  exact host_wz m c y d

/-- The channels of the convolution. -/
theorem array_xbc (n : Fin 32768) (d : Fin 768) :
    ((dats m 0 c).arrAt 13 cfg0.N : FVec Ideal S32768x768 .f32) (ix2 n d)
      = entry (argRows m c) (argNorm m c) (argWeights m c) n ⟨2048 + d.val, by omega⟩ := by
  have e : ∀ t : Fin cfg0.N, win0_13.index t (0 : Fin 2) = t.val ∧ win0_13.index t (1 : Fin 2) = 0 := (by decide +kernel : ∀ t : Fin grid0.N, _)
  have h := congrFun (blocks13 m c (pointOf n) (flush0_13 _)) (ix2 ⟨n.val % 512, by omega⟩ d)
  rw [View.read_apply, flushed13] at h
  have i : ((cfg0.win 13).blk (pointOf n)).view.emb (ix2 (⟨n.val % 512, by omega⟩ : Fin 512) d) = (ix2 n d : S32768x768.Idx) := by
    funext a
    apply Fin.ext
    match a with
    | ⟨0, _⟩ => show win0_13.index (pointOf n) 0 * 512 + 1 * (n.val % 512) = n.val; rw [(e _).1]; show n.val / 512 * 512 + _ = _; omega
    | ⟨1, _⟩ => show win0_13.index (pointOf n) 1 * 768 + 1 * d.val = d.val; rw [(e _).2]; omega
  rw [← i]
  refine h.trans ?_
  refine (window_xbc _ _ _ _ _ _ _ _ _ _ _).trans (projected_congr _ _ _ _ _ _ (block_rows m c n) (block_norm m c _) fun y => ?_)
  rw [read_wxbc]
  exact host_wxbc m c y d

/-- The steps. -/
theorem array_dt (n : Fin 32768) (d : Fin 16) :
    ((dats m 0 c).arrAt 14 cfg0.N : FVec Ideal S32768x16 .f32) (ix2 n d)
      = entry (argRows m c) (argNorm m c) (argWeights m c) n ⟨2816 + d.val, by omega⟩ := by
  have e : ∀ t : Fin cfg0.N, win0_14.index t (0 : Fin 2) = t.val ∧ win0_14.index t (1 : Fin 2) = 0 := (by decide +kernel : ∀ t : Fin grid0.N, _)
  have h := congrFun (blocks14 m c (pointOf n) (flush0_14 _)) (ix2 ⟨n.val % 512, by omega⟩ d)
  rw [View.read_apply, flushed14] at h
  have i : ((cfg0.win 14).blk (pointOf n)).view.emb (ix2 (⟨n.val % 512, by omega⟩ : Fin 512) d) = (ix2 n d : S32768x16.Idx) := by
    funext a
    apply Fin.ext
    match a with
    | ⟨0, _⟩ => show win0_14.index (pointOf n) 0 * 512 + 1 * (n.val % 512) = n.val; rw [(e _).1]; show n.val / 512 * 512 + _ = _; omega
    | ⟨1, _⟩ => show win0_14.index (pointOf n) 1 * 16 + 1 * d.val = d.val; rw [(e _).2]; omega
  rw [← i]
  refine h.trans ?_
  refine (window_dt _ _ _ _ _ _ _ _ _ _ _).trans (projected_congr _ _ _ _ _ _ (block_rows m c n) (block_norm m c _) fun y => ?_)
  rw [read_wdt]
  exact host_wdt m c y d

/-- The steps again, transposed within each chunk of 128 rows. -/
theorem array_dtt (g : Fin 256) (d : Fin 16) (l : Fin 128) :
    ((dats m 0 c).arrAt 15 cfg0.N : FVec Ideal S256x16x128 .f32) (ix3 g d l)
      = entry (argRows m c) (argNorm m c) (argWeights m c) ⟨g.val * 128 + l.val, by omega⟩ ⟨2816 + d.val, by omega⟩ := by
  have e : ∀ t : Fin cfg0.N, win0_15.index t (0 : Fin 3) = t.val ∧ win0_15.index t (1 : Fin 3) = 0 ∧ win0_15.index t (2 : Fin 3) = 0 :=
    (by decide +kernel : ∀ t : Fin grid0.N, _)
  have hn : g.val * 128 + l.val < 32768 := by omega
  have ht : (pointOf ⟨g.val * 128 + l.val, hn⟩).val = g.val / 4 := by show (g.val * 128 + l.val) / 512 = g.val / 4; omega
  have h := congrFun (blocks15 m c (pointOf ⟨g.val * 128 + l.val, hn⟩) (flush0_15 _)) (ix3 (⟨g.val % 4, by omega⟩ : Fin 4) d l)
  rw [View.read_apply, flushed15] at h
  have i : ((cfg0.win 15).blk (pointOf ⟨g.val * 128 + l.val, hn⟩)).view.emb (ix3 (⟨g.val % 4, by omega⟩ : Fin 4) d l) = (ix3 g d l : S256x16x128.Idx) := by
    funext a
    apply Fin.ext
    match a with
    | ⟨0, _⟩ => show win0_15.index (pointOf ⟨g.val * 128 + l.val, hn⟩) 0 * 4 + 1 * (g.val % 4) = g.val; rw [(e _).1, ht]; omega
    | ⟨1, _⟩ => show win0_15.index (pointOf ⟨g.val * 128 + l.val, hn⟩) 1 * 16 + 1 * d.val = d.val; rw [(e _).2.1]; omega
    | ⟨2, _⟩ => show win0_15.index (pointOf ⟨g.val * 128 + l.val, hn⟩) 2 * 128 + 1 * l.val = l.val; rw [(e _).2.2]; omega
  rw [← i]
  refine h.trans ((window_dtt _ _ _ _ _ _ _ _ _ _ _ _).trans (projected_congr _ _ _ _ _ _ (fun y => ?_) (block_norm m c _) fun y => ?_))
  · rw [show (⟨g.val % 4 * 128 + l.val, by omega⟩ : Fin 512) = ⟨(g.val * 128 + l.val) % 512, by omega⟩ from
      Fin.ext (by show g.val % 4 * 128 + l.val = (g.val * 128 + l.val) % 512; omega)]
    exact block_rows m c ⟨g.val * 128 + l.val, hn⟩ y
  · rw [read_wdtt]
    exact host_wdtt m c y d

end Cert.Kernel2Ideal.Projection

end
-- ==== Proof.Projection.Stages.lean ====
/- The reference of the input projection at an index: the product of the normed rows, and the norms of the heads. -/
module

public import proofs.«01_k».proof.Proof.Gen.Reference2Ideal
public import proofs.«01_k».proof.Proof.Projection.Spec
public import Idealize.ShloMosaic.Lib.Pointwise

@[expose] public section

noncomputable section

namespace Cert.Reference2Ideal.Projection

open Cert.Reference2Ideal Cert.Reference2Ideal.Gen Idealize.ShloMosaic Idealize.ShloMosaic.TcCoe Idealize.SL.Sem
open _root_.Projection (rowNorm channelNorm projected entry headEntry projected_congr channels_congr)

variable (x : FVec Ideal S32768x1024 .f32) (g : FVec Ideal S1024 .f32) (w : FVec Ideal S1024x2832 .f32) (h : FVec Ideal S64 .f32)

/-- The rows over their root mean squares, times the scale. -/
def normedRows : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0 (Host.reduceAdd (mulf x x) (constant S_ .f32 0x00000000#32) reducesTo_S32768x1024_S32768_d1 h_S_))
    (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The projection. -/
def product : FVec Ideal S32768x2832 .f32 := Host.dotGeneral dot_S32768x1024_S1024x2832_S32768x2832_1_0_0_1_n_n none (normedRows x g) w

/-- Four heads of two maps of 64 channels, each map over its root mean square, times the scale. -/
def normedHeads (p : FVec Ideal S32768x4x2x64 .f32) : FVec Ideal S32768x4x2x64 .f32 :=
  mulf (mulf p (broadcastInDim S32768x4x2x64 ![0, 1, 2, 3] bcast_S32768x4x2x1_S32768x4x2x64_0_1_2_3 (Host.rsqrt (addf (Host.divf
    (broadcastInDim S32768x4x2x1 ![0, 1, 2] bcast_S32768x4x2_S32768x4x2x1_0_1_2
      (Host.reduceAdd (mulf p p) (constant S_ .f32 0x00000000#32) reducesTo_S32768x4x2x64_S32768x4x2_d3 h_S_))
    (broadcastInDim S32768x4x2x1 ![] bcast_S_S32768x4x2x1 (constant S_ .f32 0x42800000#32)))
    (broadcastInDim S32768x4x2x1 ![] bcast_S_S32768x4x2x1 (constant S_ .f32 0x358637BD#32))))))
    (broadcastInDim S32768x4x2x64 ![0, 1, 2, 3] bcast_S1x1x1x64_S32768x4x2x64_0_1_2_3 (broadcastInDim S1x1x1x64 ![3] bcast_S64_S1x1x1x64_3 h))

/-- The queries: the first 512 columns, normed and scaled. -/
def queries : FVec Ideal S32768x512 .bf16 :=
  truncf .bf16 (shapeCast S32768x512 (Host.divf (mulf
    (normedHeads h (shapeCast S32768x4x2x64 (extractStridedSlice S32768x512 ![0, 0] (product x g w) slices_S32768x2832_S32768x512_0_0) shapeCasts_S32768x512_S32768x4x2x64))
    (broadcastInDim S32768x4x2x64 ![] bcast_S_S32768x4x2x64 (constant S_ .f32 0x3E000000#32)))
    (broadcastInDim S32768x4x2x64 ![] bcast_S_S32768x4x2x64 (Host.log (constant S_ .f32 0x40000000#32)))) shapeCasts_S32768x4x2x64_S32768x512) bitsLt_bf16_f32

/-- The keys: the next 512 columns, normed. -/
def keys : FVec Ideal S32768x512 .bf16 :=
  truncf .bf16 (shapeCast S32768x512
    (normedHeads h (shapeCast S32768x4x2x64 (extractStridedSlice S32768x512 ![0, 512] (product x g w) slices_S32768x2832_S32768x512_0_512) shapeCasts_S32768x512_S32768x4x2x64))
    shapeCasts_S32768x4x2x64_S32768x512) bitsLt_bf16_f32

/-- The values. -/
def values : FVec Ideal S32768x512 .bf16 :=
  truncf .bf16 (extractStridedSlice S32768x512 ![0, 1024] (product x g w) slices_S32768x2832_S32768x512_0_1024) bitsLt_bf16_f32

/-- The gate of the recurrence. -/
def gate : FVec Ideal S32768x512 .bf16 :=
  truncf .bf16 (extractStridedSlice S32768x512 ![0, 1536] (product x g w) slices_S32768x2832_S32768x512_0_1536) bitsLt_bf16_f32

/-- The channels of the convolution. -/
def convolved : FVec Ideal S32768x768 .f32 :=
  extractStridedSlice S32768x768 ![0, 2048] (product x g w) slices_S32768x2832_S32768x768_0_2048

/-- The steps. -/
def steps : FVec Ideal S32768x16 .f32 :=
  extractStridedSlice S32768x16 ![0, 2816] (product x g w) slices_S32768x2832_S32768x16_0_2816

/-- The steps, transposed within each chunk of 128 rows. -/
def stepsTurned : FVec Ideal S256x16x128 .f32 :=
  transpose S256x16x128 [0, 2, 1] (shapeCast S256x128x16 (extractStridedSlice S32768x16 ![0, 2816] (product x g w) slices_S32768x2832_S32768x16_0_2816)
    shapeCasts_S32768x16_S256x128x16) transposes_S256x128x16_S256x16x128_0_2_1

theorem normedRows_at (n : Fin 32768) (j : Fin 1024) : normedRows x g (ix2 n j) = rowNorm (fun y => x (ix2 n y)) (fun y => g (ix1 y)) j := by
  pointwise [normedRows, rowNorm]

theorem product_at (n : Fin 32768) (d : Fin 2832) : product x g w (ix2 n d) = entry x g w n d := by
  have e : product x g w (ix2 n d) = ∑ j : Fin 1024, normedRows x g (ix2 n j) * w (ix2 j d) := by pointwise [product]
  rw [e]
  exact Finset.sum_congr rfl fun j _ => congrArg (· * _) (normedRows_at x g n j)

theorem normedHeads_at (p : FVec Ideal S32768x4x2x64 .f32) (n : Fin 32768) (a : Fin 4) (b : Fin 2) (i : Fin 64) :
    normedHeads h p (ix4 n a b i) = channelNorm (fun j => p (ix4 n a b j)) (h (ix1 i)) i := by
  pointwise [normedHeads, channelNorm]

theorem queries_at (n : Fin 32768) (d : Fin 512) :
    queries x g w h (ix2 n d) = headEntry x g w h 0 (by omega) n d * (((Real.log 256)⁻¹ : ℝ) : EReal) := by
  unfold queries
  pointwise [normedHeads_at]
  rw [_root_.Projection.query_scale]
  unfold headEntry
  refine congrArg (· * _) (channels_congr _ _ _ _ _ _ (fun j => Eq.trans ?_ (product_at x g w n _)) rfl rfl)
  refine congrArg (fun e => product x g w (ix2 n e)) (Fin.ext ?_)
  show d.val / 128 * 128 + d.val / 64 % 2 * 64 + j.val = 0 + (d.val / 64 * 64 + j.val)
  omega

theorem keys_at (n : Fin 32768) (d : Fin 512) : keys x g w h (ix2 n d) = headEntry x g w h 512 (by omega) n d := by
  unfold keys
  pointwise [normedHeads_at]
  unfold headEntry
  refine channels_congr _ _ _ _ _ _ (fun j => Eq.trans ?_ (product_at x g w n _)) rfl rfl
  refine congrArg (fun e => product x g w (ix2 n e)) (Fin.ext ?_)
  show 512 + (d.val / 128 * 128 + d.val / 64 % 2 * 64 + j.val) = 512 + (d.val / 64 * 64 + j.val)
  omega

theorem values_at (n : Fin 32768) (d : Fin 512) : values x g w (ix2 n d) = entry x g w n ⟨1024 + d.val, by omega⟩ := by
  rw [← product_at]
  unfold values
  generalize product x g w = p
  pointwise

theorem gate_at (n : Fin 32768) (d : Fin 512) : gate x g w (ix2 n d) = entry x g w n ⟨1536 + d.val, by omega⟩ := by
  rw [← product_at]
  unfold gate
  generalize product x g w = p
  pointwise

theorem convolved_at (n : Fin 32768) (d : Fin 768) : convolved x g w (ix2 n d) = entry x g w n ⟨2048 + d.val, by omega⟩ := by
  rw [← product_at]
  unfold convolved
  generalize product x g w = p
  pointwise

theorem steps_at (n : Fin 32768) (d : Fin 16) : steps x g w (ix2 n d) = entry x g w n ⟨2816 + d.val, by omega⟩ := by
  rw [← product_at]
  unfold steps
  generalize product x g w = p
  pointwise

theorem stepsTurned_at (a : Fin 256) (d : Fin 16) (l : Fin 128) :
    stepsTurned x g w (ix3 a d l) = entry x g w ⟨a.val * 128 + l.val, by omega⟩ ⟨2816 + d.val, by omega⟩ := by
  rw [← product_at]
  unfold stepsTurned
  generalize product x g w = p
  pointwise

end Cert.Reference2Ideal.Projection

end
-- ==== Proof.Projection.Equation.lean ====
/- The equation of the input projection: the kernel's seven arrays are the reference's. -/
module

public import proofs.«01_k».proof.Proof.Projection.Array
public import proofs.«01_k».proof.Proof.Projection.Stages

@[expose] public section

noncomputable section

namespace Cert.Kernel2Ideal.Projection

open Cert.Kernel2Ideal Cert.Kernel2Ideal.Gen Cert.Kernel2Ideal.Value Idealize.ShloMosaic Idealize.ShloMosaic.TcCoe Idealize.SL.Sem
open Cert.Reference2Ideal.Projection (queries keys product values gate convolved steps stepsTurned queries_at keys_at values_at gate_at convolved_at steps_at
  stepsTurned_at)

variable (m : (ℓ : Loc nD τ sig) → Buf (Elt Ideal) ℓ) (c : Dev nD)

theorem queries_eq : queries (argRows m c) (argNorm m c) (argWeights m c) (argQueryNorm m c) = (dats m 0 c).arrAt 9 cfg0.N := by
  funext i
  obtain ⟨n, d, rfl⟩ : ∃ n d, i = ix2 n d := ⟨i 0, i 1, eq_ix2 i⟩
  exact (queries_at _ _ _ _ n d).trans (array_query m c n d).symm

theorem keys_eq : keys (argRows m c) (argNorm m c) (argWeights m c) (argKeyNorm m c) = (dats m 0 c).arrAt 10 cfg0.N := by
  funext i
  obtain ⟨n, d, rfl⟩ : ∃ n d, i = ix2 n d := ⟨i 0, i 1, eq_ix2 i⟩
  exact (keys_at _ _ _ _ n d).trans (array_key m c n d).symm

theorem values_eq : values (argRows m c) (argNorm m c) (argWeights m c) = (dats m 0 c).arrAt 11 cfg0.N := by
  funext i
  obtain ⟨n, d, rfl⟩ : ∃ n d, i = ix2 n d := ⟨i 0, i 1, eq_ix2 i⟩
  exact (values_at _ _ _ n d).trans (array_value m c n d).symm

theorem gate_eq : gate (argRows m c) (argNorm m c) (argWeights m c) = (dats m 0 c).arrAt 12 cfg0.N := by
  funext i
  obtain ⟨n, d, rfl⟩ : ∃ n d, i = ix2 n d := ⟨i 0, i 1, eq_ix2 i⟩
  exact (gate_at _ _ _ n d).trans (array_z m c n d).symm

theorem convolved_eq : convolved (argRows m c) (argNorm m c) (argWeights m c) = (dats m 0 c).arrAt 13 cfg0.N := by
  funext i
  obtain ⟨n, d, rfl⟩ : ∃ n d, i = ix2 n d := ⟨i 0, i 1, eq_ix2 i⟩
  exact (convolved_at _ _ _ n d).trans (array_xbc m c n d).symm

theorem steps_eq : steps (argRows m c) (argNorm m c) (argWeights m c) = (dats m 0 c).arrAt 14 cfg0.N := by
  funext i
  obtain ⟨n, d, rfl⟩ : ∃ n d, i = ix2 n d := ⟨i 0, i 1, eq_ix2 i⟩
  exact (steps_at _ _ _ n d).trans (array_dt m c n d).symm

theorem stepsTurned_eq : stepsTurned (argRows m c) (argNorm m c) (argWeights m c) = (dats m 0 c).arrAt 15 cfg0.N := by
  funext i
  obtain ⟨a, d, l, rfl⟩ : ∃ a d l, i = ix3 a d l := ⟨i 0, i 1, i 2, eq_ix3 i⟩
  exact (stepsTurned_at _ _ _ a d l).trans (array_dtt m c a d l).symm

end Cert.Kernel2Ideal.Projection

end
-- ==== Proof.Combine.Block.lean ====
/- What a grid point of the final combination writes: its rows plus the two experts' rows, each times its gate. -/
module

public import proofs.«01_k».proof.Proof.Gen.Kernel3Ideal.Value
public import Idealize.ShloMosaic.Lib.Pointwise

@[expose] public section

noncomputable section

namespace Cert.Kernel3Ideal.Combine

open Cert.Kernel3Ideal Cert.Kernel3Ideal.Gen Idealize.ShloMosaic Idealize.ShloMosaic.TcCoe Idealize.SL.Sem

variable (m : (ℓ : Loc nD τ sig) → Buf (Elt Ideal) ℓ)

theorem zero_offsets : (![0, 0] : Fin 2 → Nat) = fun _ => 0 := funext fun a => by fin_cases a <;> rfl

/-- Eight tiles of 128 lanes side by side. -/
theorem tiles_at (a b c d e f g h : FVec Ideal S512x128 .f32) (r : Fin 512) (k : Fin 8) (l : Fin 128) :
    (concatenate S512x1024 1 [⟨S512x128, a⟩, ⟨S512x128, b⟩, ⟨S512x128, c⟩, ⟨S512x128, d⟩, ⟨S512x128, e⟩, ⟨S512x128, f⟩, ⟨S512x128, g⟩, ⟨S512x128, h⟩]
        concatenates_S512x128_S512x128_S512x128_S512x128_S512x128_S512x128_S512x128_S512x128_S512x1024_d1 : FVec Ideal S512x1024 .f32)
        (ix2 r ⟨k.val * 128 + l.val, by omega⟩)
      = (![a, b, c, d, e, f, g, h] k) (ix2 r l) := by
  have hcol : k.val * 128 + l.val < 1024 := by omega
  refine concatenate_apply_piece 1 _ _ (ix2 r ⟨k.val * 128 + l.val, hcol⟩) k.val (by simp) S512x128 _ ?_ rfl (k.val * 128) ?_ (ix2 r l) ?_ rfl
  · fin_cases k <;> rfl
  · fin_cases k <;> rfl
  · intro b hb
    match b with
    | ⟨0, _⟩ => rfl
    | ⟨1, _⟩ => exact absurd rfl hb

/-- What is added to the rows second: the gate of each row times the tiles. -/
theorem added_at (x : FVec Ideal S512x1024 .f32) (v : FVec Ideal S512x1 .f32) (a b c d e f g h : FVec Ideal S512x128 .f32)
    (r : Fin 512) (k : Fin 8) (l : Fin 128) :
    k0_pay1 x v a b c d e f g h (ix2 r ⟨k.val * 128 + l.val, by omega⟩)
      = x (ix2 r ⟨k.val * 128 + l.val, by omega⟩) + v (ix2 r 0) * (![a, b, c, d, e, f, g, h] k) (ix2 r l) := by
  rw [← tiles_at]
  unfold k0_pay1
  pointwise

/-- What is added to the rows first. -/
theorem base_at (x3 : FVec Ideal S512x128 .f32) (x : FVec Ideal S512x1024 .f32) (a b c d e f g h : FVec Ideal S512x128 .f32)
    (r : Fin 512) (k : Fin 8) (l : Fin 128) :
    k0_pay2 x3 x a b c d e f g h (ix2 r ⟨k.val * 128 + l.val, by omega⟩)
      = x (ix2 r ⟨k.val * 128 + l.val, by omega⟩) + x3 (ix2 r 0) * (![a, b, c, d, e, f, g, h] k) (ix2 r l) := by
  rw [← tiles_at]
  unfold k0_pay2
  pointwise

/-- The second gate of a row. -/
theorem second_at (x3 : FVec Ideal S512x128 .f32) (r : Fin 512) : k0_pay3 x3 (ix2 r 0) = x3 (ix2 r 1) := by
  unfold k0_pay3
  pointwise

/-- Row `8 r + s` of the tiles, as the kernel's strided load reads it. -/
theorem strided_at {κ : Kind} {sp : Space} (a : Memref sig κ sp S4096x128 .f32) (ha : a.IsWhole) (x : Vec Ideal S4096x128 .f32) (s : ℕ) (hs : s < 8)
    (hin : ∀ b, S512x128.size b = 0 ∨ (![s, 0] : Fin 2 → ℕ) b + (![8, 1] : Fin 2 → ℕ) b * (S512x128.size b - 1) < S4096x128.size b) (r : Fin 512) (l : Fin 128) :
    View.readAt (Elt Ideal) a.view ⟨![s, 0], S512x128.size, ![8, 1], hin⟩ (ha.unread x) (ix2 r l) = x (ix2 ⟨8 * r.val + s, by omega⟩ l) := by
  rw [View.readAt_apply, ha.read_unread]
  congr 1
  funext b
  apply Fin.ext
  match b with
  | ⟨0, _⟩ => show s + 8 * r.val = 8 * r.val + s; omega
  | ⟨1, _⟩ => show 0 + 1 * l.val = l.val; omega

/-- The block: rows plus gate times tile rows, twice. -/
def combined (x0 : Vec Ideal S512x1024 .f32) (x1 x2 : Vec Ideal S4096x128 .f32) (x3 : Vec Ideal S512x128 .f32) (r : Fin 512) (d : Fin 1024) : EReal :=
  x0 (ix2 r d) + x3 (ix2 r 0) * x1 (ix2 ⟨8 * r.val + d.val / 128, by omega⟩ ⟨d.val % 128, by omega⟩)
    + x3 (ix2 r 1) * x2 (ix2 ⟨8 * r.val + d.val / 128, by omega⟩ ⟨d.val % 128, by omega⟩)

/-- The block's value, from tiles that hold the strided rows. -/
theorem assembled (x0 : FVec Ideal S512x1024 .f32) (x1 x2 : FVec Ideal S4096x128 .f32) (x3 : FVec Ideal S512x128 .f32)
    (a b c d e f g h a' b' c' d' e' f' g' h' : FVec Ideal S512x128 .f32) (r : Fin 512) (k : Fin 8) (l : Fin 128)
    (h1 : (![a, b, c, d, e, f, g, h] k) (ix2 r l) = x1 (ix2 ⟨8 * r.val + k.val, by omega⟩ l))
    (h2 : (![a', b', c', d', e', f', g', h'] k) (ix2 r l) = x2 (ix2 ⟨8 * r.val + k.val, by omega⟩ l)) :
    k0_pay1 (F := Ideal) (k0_pay2 x3 x0 a b c d e f g h) (k0_pay3 x3) a' b' c' d' e' f' g' h' (ix2 r ⟨k.val * 128 + l.val, by omega⟩)
      = combined x0 x1 x2 x3 r ⟨k.val * 128 + l.val, by omega⟩ := by
  rw [added_at, base_at, h1, h2, second_at]
  unfold combined
  have hq : (k.val * 128 + l.val) / 128 = k.val := by omega
  have hr : (k.val * 128 + l.val) % 128 = l.val := by omega
  simp only [hq, hr]

theorem block (c : Dev nD) (t : Fin cfg0.N) (r : Fin 512) (k : Fin 8) (l : Fin 128) :
    outsAt0 (F := Ideal) m c t (ix2 r ⟨k.val * 128 + l.val, by omega⟩)
      = combined (iblk m c 0 t) (iblk m c 1 t) (iblk m c 2 t) (iblk m c 3 t) r ⟨k.val * 128 + l.val, by omega⟩ := by
  unfold outsAt0 out0_A_4
  rw [View.read_writes_eq_canon _ _ _ (cover0_A_4 _ _ _ _ _ _ _ _ _ _ _ _ _ _ _ _)]
  unfold kernelRun0_A
  dsimp only
  sl_unfold_words
  rw [View.canon_unit_zero zero_offsets]
  simp only [View.readAt_eq_ld, Memref.IsWhole.read_unread, View.ld_unit_zero (S := S512x1024) zero_offsets, View.ld_unit_zero (S := S512x128) zero_offsets]
  refine assembled _ _ _ _ _ _ _ _ _ _ _ _ _ _ _ _ _ _ _ _ r k l ?_ ?_
  · fin_cases k <;> exact strided_at _ _ _ _ (by decide) _ r l
  · fin_cases k <;> exact strided_at _ _ _ _ (by decide) _ r l

end Cert.Kernel3Ideal.Combine

end
-- ==== Proof.Combine.Equation.lean ====
/- The equation of the final combination: the kernel's array is the reference's sum of the rows and the two gated copies. -/
module

public import proofs.«01_k».proof.Proof.Combine.Block
public import proofs.«01_k».proof.Proof.Gen.Reference3Ideal.Run

@[expose] public section

noncomputable section

namespace Cert.Reference3Ideal.Combine

open Cert.Reference3Ideal Cert.Reference3Ideal.Gen Idealize.ShloMosaic Idealize.ShloMosaic.TcCoe Idealize.SL.Sem

variable (x : FVec Ideal S32768x1024 .f32) (y : FVec Ideal S528384x128 .f32) (w : FVec Ideal S32768x128 .f32)

/-- The experts' rows as two copies of the tokens. -/
def copies : FVec Ideal S2x32768x1024 .f32 :=
  shapeCast _ (extractStridedSlice S524288x128 ![0, 0] y slices_S528384x128_S524288x128_0_0) shapeCasts_S524288x128_S2x32768x1024

def firstCopy : FVec Ideal S32768x1024 .f32 :=
  shapeCast _ (extractStridedSlice S1x32768x1024 ![0, 0, 0] (copies y) slices_S2x32768x1024_S1x32768x1024_0_0_0) shapeCasts_S1x32768x1024_S32768x1024

def secondCopy : FVec Ideal S32768x1024 .f32 :=
  shapeCast _ (extractStridedSlice S1x32768x1024 ![1, 0, 0] (copies y) slices_S2x32768x1024_S1x32768x1024_1_0_0) shapeCasts_S1x32768x1024_S32768x1024

/-- The reference's result: the rows, plus each gate times its copy of the experts' rows. -/
def total : FVec Ideal S32768x1024 .f32 :=
  addf (addf x (mulf (broadcastInDim S32768x1024 ![0, 1] bcast_S32768x1_S32768x1024_0_1 (extractStridedSlice S32768x1 ![0, 0] w slices_S32768x128_S32768x1_0_0)) (firstCopy y)))
    (mulf (broadcastInDim S32768x1024 ![0, 1] bcast_S32768x1_S32768x1024_0_1 (extractStridedSlice S32768x1 ![0, 1] w slices_S32768x128_S32768x1_0_1)) (secondCopy y))

theorem copies_at (e : Fin 2) (n : Fin 32768) (d : Fin 1024) :
    copies y (ix3 e n d) = y (ix2 ⟨262144 * e.val + (8 * n.val + d.val / 128), by omega⟩ ⟨d.val % 128, by omega⟩) := by
  have h : copies y (ix3 e n d) = extractStridedSlice S524288x128 ![0, 0] y slices_S528384x128_S524288x128_0_0
      (ix2 ⟨262144 * e.val + (8 * n.val + d.val / 128), by omega⟩ ⟨d.val % 128, by omega⟩) := by
    unfold copies
    refine shapeCast_apply _ _ _ _ ?_
    rw [Shape.rowMajor_val_two, Shape.rowMajor_val_three]
    show (262144 * e.val + (8 * n.val + d.val / 128)) * 128 + d.val % 128 = (e.val * 32768 + n.val) * 1024 + d.val
    omega
  rw [h]
  pointwise

theorem firstCopy_at (n : Fin 32768) (d : Fin 1024) :
    firstCopy y (ix2 n d) = y (ix2 ⟨8 * n.val + d.val / 128, by omega⟩ ⟨d.val % 128, by omega⟩) := by
  have h : firstCopy y (ix2 n d) = copies y (ix3 0 n d) := by
    unfold firstCopy
    pointwise
  rw [h, copies_at]
  have e : (⟨262144 * ((0 : Fin 2).val) + (8 * n.val + d.val / 128), by omega⟩ : Fin 528384) = ⟨8 * n.val + d.val / 128, by omega⟩ :=
    Fin.ext (show 262144 * 0 + (8 * n.val + d.val / 128) = 8 * n.val + d.val / 128 by omega)
  rw [e]

theorem secondCopy_at (n : Fin 32768) (d : Fin 1024) :
    secondCopy y (ix2 n d) = y (ix2 ⟨262144 + (8 * n.val + d.val / 128), by omega⟩ ⟨d.val % 128, by omega⟩) := by
  have h : secondCopy y (ix2 n d) = copies y (ix3 1 n d) := by
    unfold secondCopy
    pointwise
  rw [h, copies_at]
  rfl

/-- The result at a row and a column. -/
theorem total_at (n : Fin 32768) (d : Fin 1024) :
    total x y w (ix2 n d)
      = x (ix2 n d) + w (ix2 n 0) * y (ix2 ⟨8 * n.val + d.val / 128, by omega⟩ ⟨d.val % 128, by omega⟩)
        + w (ix2 n 1) * y (ix2 ⟨262144 + (8 * n.val + d.val / 128), by omega⟩ ⟨d.val % 128, by omega⟩) := by
  rw [← firstCopy_at y n d, ← secondCopy_at y n d]
  unfold total
  pointwise

end Cert.Reference3Ideal.Combine

namespace Cert.Kernel3Ideal.Combine

open Cert.Kernel3Ideal Cert.Kernel3Ideal.Gen Cert.Kernel3Ideal.Value Idealize.ShloMosaic Idealize.ShloMosaic.TcCoe Idealize.SL.Sem
open Cert.Reference3Ideal.Combine (total total_at)

variable (m : (ℓ : Loc nD τ sig) → Buf (Elt Ideal) ℓ) (c : Dev nD)

/-- The grid point that works on row `n`. -/
def pointOf (n : Fin 32768) : Fin cfg0.N := ⟨n.val / 512, lt_of_lt_of_eq (by omega : n.val / 512 < 64) N_0.symm⟩

/-- The rows, the experts' rows and the gates as launched. -/
def argRows : FVec Ideal S32768x1024 .f32 := m (c.tc.loc main_arg0)
def argTiles : FVec Ideal S528384x128 .f32 := m (c.tc.loc main_arg1)
def argGates : FVec Ideal S32768x128 .f32 := m (c.tc.loc main_arg2)

theorem read_rows (n : Fin 32768) (y : Fin 1024) :
    (iblk m c 0 (pointOf n) : Vec Ideal S512x1024 .f32) (ix2 ⟨n.val % 512, by omega⟩ y) = argRows m c (ix2 n y) := by
  have e : ∀ t : Fin cfg0.N, win0_0.index t (0 : Fin 2) = t.val ∧ win0_0.index t (1 : Fin 2) = 0 := (by decide +kernel : ∀ t : Fin grid0.N, _)
  unfold iblk
  rw [View.read_apply]
  show argRows m c _ = argRows m c _
  congr 1
  funext a
  apply Fin.ext
  match a with
  | ⟨0, _⟩ => show win0_0.index (pointOf n) 0 * 512 + 1 * (n.val % 512) = n.val; rw [(e (pointOf n)).1]; show n.val / 512 * 512 + _ = _; omega
  | ⟨1, _⟩ => show win0_0.index (pointOf n) 1 * 1024 + 1 * y.val = y.val; rw [(e (pointOf n)).2]; omega

theorem read_first (n : Fin 32768) (k : Fin 8) (l : Fin 128) :
    (iblk m c 1 (pointOf n) : Vec Ideal S4096x128 .f32) (ix2 ⟨8 * (n.val % 512) + k.val, by omega⟩ l)
      = argTiles m c (ix2 ⟨8 * n.val + k.val, by omega⟩ l) := by
  have e : ∀ t : Fin cfg0.N, win0_1.index t (0 : Fin 2) = t.val ∧ win0_1.index t (1 : Fin 2) = 0 := (by decide +kernel : ∀ t : Fin grid0.N, _)
  unfold iblk
  rw [View.read_apply]
  show argTiles m c _ = argTiles m c _
  congr 1
  funext a
  apply Fin.ext
  match a with
  | ⟨0, _⟩ => show win0_1.index (pointOf n) 0 * 4096 + 1 * (8 * (n.val % 512) + k.val) = 8 * n.val + k.val; rw [(e (pointOf n)).1]; show n.val / 512 * 4096 + _ = _; omega
  | ⟨1, _⟩ => show win0_1.index (pointOf n) 1 * 128 + 1 * l.val = l.val; rw [(e (pointOf n)).2]; omega

theorem read_second (n : Fin 32768) (k : Fin 8) (l : Fin 128) :
    (iblk m c 2 (pointOf n) : Vec Ideal S4096x128 .f32) (ix2 ⟨8 * (n.val % 512) + k.val, by omega⟩ l)
      = argTiles m c (ix2 ⟨262144 + (8 * n.val + k.val), by omega⟩ l) := by
  have e : ∀ t : Fin cfg0.N, win0_2.index t (0 : Fin 2) = t.val + 64 ∧ win0_2.index t (1 : Fin 2) = 0 := (by decide +kernel : ∀ t : Fin grid0.N, _)
  unfold iblk
  rw [View.read_apply]
  show argTiles m c _ = argTiles m c _
  congr 1
  funext a
  apply Fin.ext
  match a with
  | ⟨0, _⟩ =>
    show win0_2.index (pointOf n) 0 * 4096 + 1 * (8 * (n.val % 512) + k.val) = 262144 + (8 * n.val + k.val)
    rw [(e (pointOf n)).1]
    show (n.val / 512 + 64) * 4096 + _ = _
    omega
  | ⟨1, _⟩ => show win0_2.index (pointOf n) 1 * 128 + 1 * l.val = l.val; rw [(e (pointOf n)).2]; omega

theorem read_gates (n : Fin 32768) (l : Fin 128) :
    (iblk m c 3 (pointOf n) : Vec Ideal S512x128 .f32) (ix2 ⟨n.val % 512, by omega⟩ l) = argGates m c (ix2 n l) := by
  have e : ∀ t : Fin cfg0.N, win0_3.index t (0 : Fin 2) = t.val ∧ win0_3.index t (1 : Fin 2) = 0 := (by decide +kernel : ∀ t : Fin grid0.N, _)
  unfold iblk
  rw [View.read_apply]
  show argGates m c _ = argGates m c _
  congr 1
  funext a
  apply Fin.ext
  match a with
  | ⟨0, _⟩ => show win0_3.index (pointOf n) 0 * 512 + 1 * (n.val % 512) = n.val; rw [(e (pointOf n)).1]; show n.val / 512 * 512 + _ = _; omega
  | ⟨1, _⟩ => show win0_3.index (pointOf n) 1 * 128 + 1 * l.val = l.val; rw [(e (pointOf n)).2]; omega

/-- The array at a row and a column. -/
theorem array_at (n : Fin 32768) (k : Fin 8) (l : Fin 128) :
    ((dats m 0 c).arrAt 4 cfg0.N : FVec Ideal S32768x1024 .f32) (ix2 n ⟨k.val * 128 + l.val, by omega⟩)
      = total (argRows m c) (argTiles m c) (argGates m c) (ix2 n ⟨k.val * 128 + l.val, by omega⟩) := by
  have hd : k.val * 128 + l.val < 1024 := by omega
  have e : ∀ t : Fin cfg0.N, win0_4.index t (0 : Fin 2) = t.val ∧ win0_4.index t (1 : Fin 2) = 0 := (by decide +kernel : ∀ t : Fin grid0.N, _)
  have h := congrFun (blocks4 m c (pointOf n) (flush0_4 _)) (ix2 ⟨n.val % 512, by omega⟩ ⟨k.val * 128 + l.val, hd⟩)
  rw [View.read_apply, flushed4] at h
  have i : ((cfg0.win 4).blk (pointOf n)).view.emb (ix2 (⟨n.val % 512, by omega⟩ : Fin 512) (⟨k.val * 128 + l.val, hd⟩ : Fin 1024)) = (ix2 n ⟨k.val * 128 + l.val, hd⟩ : S32768x1024.Idx) := by
    funext a
    apply Fin.ext
    match a with
    | ⟨0, _⟩ => show win0_4.index (pointOf n) 0 * 512 + 1 * (n.val % 512) = n.val; rw [(e _).1]; show n.val / 512 * 512 + _ = _; omega
    | ⟨1, _⟩ => show win0_4.index (pointOf n) 1 * 1024 + 1 * (k.val * 128 + l.val) = k.val * 128 + l.val; rw [(e _).2]; omega
  have hl : ((dats m 0 c).arrAt 4 cfg0.N : FVec Ideal S32768x1024 .f32) (ix2 n ⟨k.val * 128 + l.val, hd⟩)
      = outsAt0 (F := Ideal) m c (pointOf n) (ix2 ⟨n.val % 512, by omega⟩ ⟨k.val * 128 + l.val, hd⟩) := by
    rw [← i]
    exact h
  rw [hl, block, total_at]
  unfold combined
  have hq : (k.val * 128 + l.val) / 128 = k.val := by omega
  have hr : (k.val * 128 + l.val) % 128 = l.val := by omega
  simp only [hq, hr]
  rw [read_rows, read_gates, read_gates, read_first, read_second]

theorem array_eq : total (argRows m c) (argTiles m c) (argGates m c) = (dats m 0 c).arrAt 4 cfg0.N := by
  funext i
  obtain ⟨n, d, rfl⟩ : ∃ n d, i = ix2 n d := ⟨i 0, i 1, eq_ix2 i⟩
  have h := array_at m c n ⟨d.val / 128, by omega⟩ ⟨d.val % 128, by omega⟩
  have hd : (⟨d.val / 128 * 128 + d.val % 128, by omega⟩ : Fin 1024) = d := Fin.ext (by show d.val / 128 * 128 + d.val % 128 = d.val; omega)
  simp only [hd] at h
  exact h.symm

end Cert.Kernel3Ideal.Combine

end
-- ==== Proof.Output.Block.lean ====
/- What a grid point of the first output projection computes from its blocks: the rows, and the rows normalized. -/
module

public import proofs.«01_k».proof.Proof.Gen.Kernel4Ideal.Points

@[expose] public section

noncomputable section

namespace Cert.Output

open Idealize.ShloMosaic Idealize.ShloMosaic.TcCoe
open Cert.Kernel4Ideal Cert.Kernel4Ideal.Gen

variable {F : FTy → Type} [FloatOps F]

/-- The residual rows plus one product for each half of the contracted axis. -/
def mixed (x0 : FVec F S512x1024 .f32) (x1 x2 : FVec F S512x512 .bf16) (x3 x4 : FVec F S512x1024 .bf16) : FVec F S512x1024 .f32 :=
  addf
    (addf x0
      (matmul dot_S512x512_S512x1024_S512x1024_1_0_0_1_n_n none (shapeCast S512x512 x1 shapeCasts_S512x512_S512x512)
        (shapeCast S512x1024 x3 shapeCasts_S512x1024_S512x1024) (constant S512x1024 .f32 0x00000000#32)))
    (matmul dot_S512x512_S512x1024_S512x1024_1_0_0_1_n_n none (shapeCast S512x512 x2 shapeCasts_S512x512_S512x512)
      (shapeCast S512x1024 x4 shapeCasts_S512x1024_S512x1024) (constant S512x1024 .f32 0x00000000#32))

/-- One over the root of the mean square of each row, with the small constant added under the root. -/
def scale (y : FVec F S512x1024 .f32) : FVec F S512x1 .f32 :=
  rsqrt (addf
    (divf (shapeCast S512x1 (multiReduction .add [1] S512 (mulf y y) 0x00000000#32 reduces_S512x1024_S512 (.inl rfl) rfl) shapeCasts_S512_S512x1)
      (broadcast S512x1 (Scalar.ofBits .f32 0x44800000#32 : F .f32)))
    (broadcast S512x1 (Scalar.ofBits .f32 0x358637BD#32 : F .f32)))

/-- The rows times their scale times the norm's weights. -/
def normed (y : FVec F S512x1024 .f32) (x5 : FVec F S1x1024 .f32) : FVec F S512x1024 .f32 :=
  mulf (mulf y (broadcastTo S512x1024 (scale y) broadcasts_S512x1_S512x1024))
    (broadcastTo S512x1024 (shapeCast S1x1024 x5 shapeCasts_S1x1024_S1x1024) broadcasts_S1x1024_S512x1024)

end Cert.Output

end
-- ==== Proof.Output.Tiles.lean ====
/- How a block of 512 rows of 1024 columns lies in a block of row tiles: eight rows of 128 lanes to a row. -/
module

public import Idealize.ShloMosaic.Lib.Pipeline.Value
public import Idealize.ShloMosaic.Lib.VecWindow
public import Idealize.ShloMosaic.Lib.Pointwise

@[expose] public section

noncomputable section

namespace Cert.Output

open Idealize.ShloMosaic

variable {F : FTy → Type} {sig : RefSig} {κ : Kind} {sp : Space}

abbrev Rows : Shape := ⟨2, ![512, 1024]⟩
abbrev Tiles : Shape := ⟨2, ![4096, 128]⟩
abbrev Tile : Shape := ⟨2, ![512, 128]⟩

/-- Tile row `8 r + s` holds lanes `128 s` to `128 s + 127` of row `r`. -/
def tiles (z : FVec F Rows .f32) : FVec F Tiles .f32 := fun j =>
  z (ix2 ⟨(j 0).val / 8, by have h : (j 0).val < 4096 := (j 0).isLt; omega⟩
    ⟨(j 0).val % 8 * 128 + (j 1).val, by have h : (j 1).val < 128 := (j 1).isLt; omega⟩)

theorem tiles_at (z : FVec F Rows .f32) (r : Fin 512) (s : Fin 8) (l : Fin 128) :
    tiles z (ix2 ⟨8 * r.val + s.val, by omega⟩ l) = z (ix2 r ⟨s.val * 128 + l.val, by omega⟩) := by
  unfold tiles
  congr 2
  · exact Fin.ext (show (8 * r.val + s.val) / 8 = r.val by omega)
  · exact Fin.ext (show (8 * r.val + s.val) % 8 * 128 + l.val = s.val * 128 + l.val by omega)

/-- A buffer written once, whole, holds what was written. -/
theorem whole_read {S : Shape} {off : Fin S.rank → ℕ} (hoff : off = fun _ => 0) (a : Memref sig κ sp S .f32) (f : a.view.ty.Contents (Elt F))
    (inb : ∀ b, off b + S.size b ≤ S.size b) (w : S.Idx → Elt F .f32) :
    a.view.read (Elt F) (a.view.writes (Elt F) f [⟨Rect.unit off S.size inb, w⟩]) = w := by
  subst hoff
  exact View.read_writes_full a.view f inb w []

/-- The eighth of a block of rows that starts at lane `128 s`, stored at every eighth tile row from `s` on. -/
structure Stored (z : FVec F Rows .f32) (s : ℕ) (p : View.Piece (Elt F) Tiles .f32) : Prop where
  off : p.1.off = ![s, 0]
  size : p.1.size = ![512, 128]
  stride : p.1.stride = ![8, 1]
  value : ∀ x : p.1.shape.Idx, ∀ (r : Fin 512) (c : Fin 1024), (x 0).val = r.val → c.val = s * 128 + (x 1).val → p.2 x = z (ix2 r c)

theorem stored {z : FVec F Rows .f32} {s : ℕ} (hs : s < 8) (inb) (hp) {o : ℕ} (ho : o = s * 128) (h : Rows.Slices ![0, o] Tile) :
    Stored z s ⟨⟨⟨![s, 0], Tile.size, ![8, 1], inb⟩, hp⟩, extractStridedSlice Tile ![0, o] z h⟩ where
  off := rfl
  size := rfl
  stride := rfl
  value x r c hr hc := by
    refine extractStridedSlice_apply ![0, o] z h x (ix2 r c) fun a => ?_
    match a with
    | ⟨0, _⟩ => show r.val = 0 + (x 0).val; omega
    | ⟨1, _⟩ => show c.val = o + (x 1).val; omega

/-- Eight such stores, one for each eighth, leave the block's tiles. -/
theorem tiles_read (a : View sig κ sp Tiles .f32) (f : a.ty.Contents (Elt F)) (z : FVec F Rows .f32) (L : List (View.Piece (Elt F) Tiles .f32))
    (hL : ∀ p ∈ L, ∃ s < 8, Stored z s p) (hc : ∀ s < 8, ∃ p ∈ L, Stored z s p) :
    a.read (Elt F) (a.writes (Elt F) f L) = tiles z := by
  funext y
  have h0 : (y 0).val < 4096 := (y 0).isLt
  have h1 : (y 1).val < 128 := (y 1).isLt
  refine View.read_writes_apply_of_pieces a f (tiles z) L (fun p hp x => ?_) y ?_
  · obtain ⟨s, hs, hst⟩ := hL p hp
    have e0 : (p.1.emb x 0).val = p.1.off 0 + p.1.stride 0 * (x 0).val := rfl
    have e1 : (p.1.emb x 1).val = p.1.off 1 + p.1.stride 1 * (x 1).val := rfl
    have x0 : (x 0).val < 512 := lt_of_lt_of_eq (x 0).isLt (congrFun hst.size 0)
    have x1 : (x 1).val < 128 := lt_of_lt_of_eq (x 1).isLt (congrFun hst.size 1)
    rw [hst.off, hst.stride] at e0 e1
    have e0' : (p.1.emb x 0).val = s + 8 * (x 0).val := e0
    have e1' : (p.1.emb x 1).val = 0 + 1 * (x 1).val := e1
    unfold tiles
    exact hst.value x _ _ (show (x 0).val = (p.1.emb x 0).val / 8 by omega)
      (show (p.1.emb x 0).val % 8 * 128 + (p.1.emb x 1).val = s * 128 + (x 1).val by omega)
  · obtain ⟨p, hp, hst⟩ := hc ((y 0).val % 8) (by omega)
    refine ⟨p, hp, p.1.mem_set.mpr fun b => ?_⟩
    match b with
    | ⟨0, _⟩ =>
      refine ⟨(y 0).val / 8, lt_of_lt_of_eq (by omega : (y 0).val / 8 < 512) (congrFun hst.size 0).symm, ?_⟩
      have e : p.1.off 0 = (y 0).val % 8 := congrFun hst.off 0
      have e' : p.1.stride 0 = 8 := congrFun hst.stride 0
      show (y 0).val = p.1.off 0 + p.1.stride 0 * _
      rw [e, e']; omega
    | ⟨1, _⟩ =>
      refine ⟨(y 1).val, lt_of_lt_of_eq h1 (congrFun hst.size 1).symm, ?_⟩
      have e : p.1.off 1 = 0 := congrFun hst.off 1
      have e' : p.1.stride 1 = 1 := congrFun hst.stride 1
      show (y 1).val = p.1.off 1 + p.1.stride 1 * _
      rw [e, e']; omega

/-- The eight stores written out, the last one first. -/
theorem eight_read (a : View sig κ sp Tiles .f32) (f : a.ty.Contents (Elt F)) (z : FVec F Rows .f32) {p0 p1 p2 p3 p4 p5 p6 p7 : View.Piece (Elt F) Tiles .f32}
    (h0 : Stored z 0 p0) (h1 : Stored z 1 p1) (h2 : Stored z 2 p2) (h3 : Stored z 3 p3) (h4 : Stored z 4 p4) (h5 : Stored z 5 p5) (h6 : Stored z 6 p6)
    (h7 : Stored z 7 p7) : a.read (Elt F) (a.writes (Elt F) f [p7, p6, p5, p4, p3, p2, p1, p0]) = tiles z := by
  refine tiles_read a f z _ (fun p hp => ?_) fun s hs => ?_
  · simp only [List.mem_cons, List.not_mem_nil, or_false] at hp
    rcases hp with rfl | rfl | rfl | rfl | rfl | rfl | rfl | rfl
    exacts [⟨7, by omega, h7⟩, ⟨6, by omega, h6⟩, ⟨5, by omega, h5⟩, ⟨4, by omega, h4⟩, ⟨3, by omega, h3⟩, ⟨2, by omega, h2⟩, ⟨1, by omega, h1⟩, ⟨0, by omega, h0⟩]
  · match s, hs with
    | 0, _ => exact ⟨p0, by simp, h0⟩
    | 1, _ => exact ⟨p1, by simp, h1⟩
    | 2, _ => exact ⟨p2, by simp, h2⟩
    | 3, _ => exact ⟨p3, by simp, h3⟩
    | 4, _ => exact ⟨p4, by simp, h4⟩
    | 5, _ => exact ⟨p5, by simp, h5⟩
    | 6, _ => exact ⟨p6, by simp, h6⟩
    | 7, _ => exact ⟨p7, by simp, h7⟩

end Cert.Output

end
-- ==== Proof.Output.Run.lean ====
/- One grid point of the first output projection, run on its blocks. -/
module

public import proofs.«01_k».proof.Proof.Gen.Kernel4Ideal.Frame
public import proofs.«01_k».proof.Proof.Output.Block
public import proofs.«01_k».proof.Proof.Output.Tiles

@[expose] public section

set_option maxRecDepth 16384

noncomputable section

namespace Cert.Output

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

theorem zero_offsets : (![0, 0] : Fin 2 → Nat) = fun _ => 0 := funext fun a => by fin_cases a <;> rfl

set_option maxHeartbeats 4000000 in
/-- From blocks that hold the inputs, the body leaves them as they are, the rows in the first output and the normalized rows' tiles in the second. -/
theorem run (c : Dev nD) (i : grid0.Coords)
    (arg1 : Memref sig .tc .vmem S512x1024 .f32) (harg1 : arg1.IsWhole)
    (arg2 : Memref sig .tc .vmem S512x512 .bf16) (harg2 : arg2.IsWhole)
    (arg3 : Memref sig .tc .vmem S512x512 .bf16) (harg3 : arg3.IsWhole)
    (arg4 : Memref sig .tc .vmem S512x1024 .bf16) (harg4 : arg4.IsWhole)
    (arg5 : Memref sig .tc .vmem S512x1024 .bf16) (harg5 : arg5.IsWhole)
    (arg6 : Memref sig .tc .vmem S1x1024 .f32) (harg6 : arg6.IsWhole)
    (arg7 : Memref sig .tc .vmem S1024x128 .bf16) (harg7 : arg7.IsWhole)
    (arg8 : Memref sig .tc .vmem S1024x128 .bf16) (harg8 : arg8.IsWhole)
    (arg9 : Memref sig .tc .vmem S1x128 .f32) (harg9 : arg9.IsWhole)
    (arg10 : Memref sig .tc .vmem S512x1024 .f32) (harg10 : arg10.IsWhole)
    (arg11 : Memref sig .tc .vmem S4096x128 .f32) (harg11 : arg11.IsWhole)
    (arg12 : Memref sig .tc .vmem S512x128 .i32) (harg12 : arg12.IsWhole)
    (arg13 : Memref sig .tc .vmem S512x128 .f32) (harg13 : arg13.IsWhole)
    (arg14 : Memref sig .tc .vmem S8x128 .f32) (harg14 : arg14.IsWhole)
    (x0 : Vec F S512x1024 .f32) (x1 : Vec F S512x512 .bf16) (x2 : Vec F S512x512 .bf16) (x3 : Vec F S512x1024 .bf16) (x4 : Vec F S512x1024 .bf16) (x5 : Vec F S1x1024 .f32) (x6 : Vec F S1024x128 .bf16) (x7 : Vec F S1024x128 .bf16) (x8 : Vec F S1x128 .f32)
    (E : Set ℕ) (K : PUnit → sProp (MT nD τ sig Unit (Elt F) ℕ (UR sig nD τ) ℕ)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (mixed x0 x1 x2 x3 x4) ∗ owns (c : Thread nD τ) arg11 fullShare (tiles (normed (mixed x0 x1 x2 x3 x4) x5)) ∗ (∃ d, owns (c : Thread nD τ) arg12 fullShare d) ∗ (∃ d, owns (c : Thread nD τ) arg13 fullShare d) ∗ (∃ d, owns (c : Thread nD τ) arg14 fullShare d)) -∗ K ⟨⟩))
          ⊢ wp frame (wpE (defs₀ (F := F)) Variants.none c none) E (cc0_proj_router i arg1 harg1 arg2 harg2 arg3 harg3 arg4 harg4 arg5 harg5 arg6 harg6 arg7 harg7 arg8 harg8 arg9 harg9 arg10 harg10 arg11 harg11 arg12 harg12 arg13 harg13 arg14 harg14) K := by
  unfold cc0_proj_router k0_part1 k0_part2 k0_part3 k0_part4 k0_part5
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    refine (whole_read zero_offsets arg10 _ _ _).trans ?_
    sl_unfold_words
    simp only [View.readAt_eq_ld, Memref.IsWhole.read_unread, View.ld_unit_zero (S := S512x1024) zero_offsets, View.ld_unit_zero (S := S512x512) zero_offsets]
    rfl
  isplitl [H10]
  · iexists _; isplitr; swap; · iexact H10
    ipureintro
    sl_unfold_words
    simp only [View.readAt_eq_ld, Memref.IsWhole.read_unread, View.ld_unit_zero (S := S512x1024) zero_offsets, View.ld_unit_zero (S := S512x512) zero_offsets, View.ld_unit_zero (S := S1x1024) zero_offsets]
    exact eight_read arg11.view _ (normed (mixed x0 x1 x2 x3 x4) x5) (stored (by omega) _ _ rfl _) (stored (by omega) _ _ rfl _) (stored (by omega) _ _ rfl _) (stored (by omega) _ _ rfl _)
      (stored (by omega) _ _ rfl _) (stored (by omega) _ _ rfl _) (stored (by omega) _ _ rfl _) (stored (by omega) _ _ rfl _)
  isplitl [H11]
  · iexists _; iexists _; isplitr; swap; · iexact H11
    ipureintro; rfl
  isplitl [H12]
  · iexists _; iexists _; isplitr; swap; · iexact H12
    ipureintro; rfl
  iexists _; iexists _; isplitr; swap; · iexact H13
  ipureintro; rfl

end Cert.Output

end
-- ==== Proof.Output.Grid.lean ====
/- The first output projection run over its whole grid: what its first two outputs hold at the end, and that it leaves its arguments alone. -/
module

public import proofs.«01_k».proof.Proof.Output.Run

@[expose] public section

set_option maxRecDepth 16384

noncomputable section

namespace Cert.Output

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]
variable (m : (ℓ : Loc nD τ sig) → Buf (Elt F) ℓ) (ρ : Dev nD → PrngReg)

/-- The rows a grid point leaves in the first output. -/
def rows (c : Dev nD) (t : Fin cfg0.N) : FVec F S512x1024 .f32 :=
  mixed (iblk m c 0 t) (iblk m c 1 t) (iblk m c 2 t) (iblk m c 3 t) (iblk m c 4 t)

/-- The tiles it leaves in the second. -/
def normedTiles (c : Dev nD) (t : Fin cfg0.N) : FVec F S4096x128 .f32 := tiles (normed (rows m c t) (iblk m c 5 t))

/-- Of the three router outputs nothing is kept. -/
def forgotten : Fin 14 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true

/-- What each window holds after a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => rows m c t
    | ⟨10, _⟩ => normedTiles m c t
    | ⟨11, _⟩ => fun _ => Classical.arbitrary _
    | ⟨12, _⟩ => fun _ => Classical.arbitrary _
    | ⟨13, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = rows m c t := by dsimp only [dats]
theorem after_10 (c : Dev nD) (t : Fin cfg0.N) : (dats m 0 c).after 10 t = normedTiles m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- What a grid point starts from. -/
def entry (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d))

/-- What it ends with. -/
def exit (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ (∃ d, owns (c : Thread nD τ) (win0_11.stage (cfg0.slots t 11)) fullShare d)
    ∗ (∃ d, owns (c : Thread nD τ) (win0_12.stage (cfg0.slots t 12)) fullShare d)
    ∗ (∃ d, owns (c : Thread nD τ) (win0_13.stage (cfg0.slots t 13)) fullShare d))

theorem step (c : Dev nD) (t : Fin cfg0.N) :
    entry m c t ⊢ wp frame (wpE (defs₀ (F := F)) Variants.none c none) Set.univ (bodyAt0 t) (fun _ => exit m c t) := by
  unfold entry exit bodyAt0
  simp only [before_0, before_1, before_2, before_3, before_4, before_5, before_6, before_7, before_8]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  unfold normedTiles rows
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply run c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgotten := fun t => by
  rw [bigSep_W0, bigSep_W0, body_row]
  exact triple_restated (step m c t) rfl .rfl fun _ => .rfl

/-- The buffers that the lines after the grid write. -/
def tail : Finset (Ref sig .tc) := {main_v24, main_v25, main_v26}

theorem tail_writes : ∀ ops ∈ ([hostOps1] : List (List (HloOp τ sig (Elt F)))), ∀ op ∈ ops, ∀ b : Ref sig .tc, Proc.devRef .tc b ∈ op.writes → b ∈ tail := by
  intro ops hops op hop b hb
  simp only [List.mem_cons, List.mem_nil_iff, or_false] at hops
  subst hops
  simp only [hostOps1, List.mem_cons, List.mem_nil_iff, or_false] at hop
  rcases hop with rfl | rfl | rfl
  all_goals
    simp only [StableHlo.nullary_writes, StableHlo.unary_writes, StableHlo.binary_writes, StableHlo.reshape_writes, Finset.mem_singleton] at hb
    have hb' := Proc.devRef_injective .tc hb
    subst hb'
    decide

set_option backward.isDefEq.respectTransparency.types false in
theorem launched : θ_run defs (onTc (τ := τ) (main (F := F))) (s₀ m ρ) (fun r =>
    Pipeline.RDat.FramePostR cfg0 (fun c => (dats m 0 c).toRForget forgotten) tail (fun c b => V m c b) r ∧ r.2.sem = fun _ => 0) :=
  Pipeline.θ_run_frame_around_T_forget (Q' := _) cfgs (dats m) (0 : Fin 1) launch0 defs₀ Variants.none forgotten tail m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl) (hQ' := fun _ h => h)

/-- What the run leaves: the two outputs' arrays at the contents the grid wrote, the arguments as they were, every counter at zero. -/
theorem outcome : θ_run defs (onTc (τ := τ) (main (F := F))) ⟨m, fun _ => 0, ρ⟩ (fun r => (∀ c : Dev nD,
      (r.2.mem ((cfg0.spec 9).arr.view.loc (c.tc : Thread nD τ)) = (dats m 0 c).arrAt 9 cfg0.N
        ∧ r.2.mem ((cfg0.spec 10).arr.view.loc (c.tc : Thread nD τ)) = (dats m 0 c).arrAt 10 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => ⟨⟨((dats m 0 c).toRForget_arrAt_iff (fgt := forgotten) (w := 9) (by decide) _ _).mp ((h.1 c).1 9),
      ((dats m 0 c).toRForget_arrAt_iff (fgt := forgotten) (w := 10) (by decide) _ _).mp ((h.1 c).1 10)⟩,
    (((dats m 0 c).toRForget_arrAt_iff (fgt := forgotten) (w := 0) (by decide) _ _).mp ((h.1 c).1 0)).trans (((dats m 0 c).arrAt_in 0 rfl _).trans ((A_eq m c 0).trans (V_main_arg0 m c))),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c),
    ((h.1 c).2 main_arg8 (Finset.mem_sdiff.mpr ⟨Pipeline.mem_restRefs_of main_arg8 (by decide) (by decide), by decide⟩)).trans (V_main_arg8 m c)⟩, h.2⟩) (launched m ρ)

end Cert.Output

end
-- ==== Proof.Output.Stages.lean ====
/- The reference of the first output projection at an index: the residual rows plus the product of the two mixers' rows with the weights, and
   those rows normalized, eight tiles of 128 lanes to a row. -/
module

public import proofs.«01_k».proof.Proof.Gen.Reference4Ideal
public import proofs.«01_k».proof.Proof.Projection.Stages

@[expose] public section

noncomputable section

namespace Cert.Reference4Ideal.Output

open Cert.Reference4Ideal Cert.Reference4Ideal.Gen Idealize.ShloMosaic Idealize.ShloMosaic.TcCoe Idealize.SL.Sem
open _root_.Projection (rowNorm)
open Cert.Reference2Ideal.Projection (normedRows normedRows_at)

variable (x : FVec Ideal S32768x1024 .f32) (a s : FVec Ideal S32768x512 .f32) (w : FVec Ideal S1024x1024 .f32) (g : FVec Ideal S1024 .f32)

/-- The two mixers' rows side by side. -/
def sides : FVec Ideal S32768x1024 .f32 := concatenate S32768x1024 1 [⟨S32768x512, a⟩, ⟨S32768x512, s⟩] concatenates_S32768x512_S32768x512_S32768x1024_d1

/-- The rows of the next residual. -/
def nextRows : FVec Ideal S32768x1024 .f32 := addf x (Host.dotGeneral dot_S32768x1024_S1024x1024_S32768x1024_1_0_0_1_n_n none (sides a s) w)

/-- Those rows normalized, as tiles. -/
def nextTiles (y : FVec Ideal S32768x1024 .f32) : FVec Ideal S262144x128 .f32 := shapeCast _ (normedRows y g) shapeCasts_S32768x1024_S262144x128

theorem sides_first (n : Fin 32768) (j : Fin 512) : sides a s (ix2 n ⟨j.val, by omega⟩) = a (ix2 n j) := by
  have hj : j.val < 1024 := by omega
  unfold sides
  refine concatenate_apply_piece 1 _ _ (ix2 n ⟨j.val, hj⟩) 0 (by simp) S32768x512 _ ?_ rfl 0 ?_ (ix2 n j) ?_ (Nat.zero_add _)
  · rfl
  · rfl
  intro b hb
  match b with
  | ⟨0, _⟩ => rfl
  | ⟨1, _⟩ => exact absurd rfl hb

theorem sides_second (n : Fin 32768) (j : Fin 512) : sides a s (ix2 n ⟨512 + j.val, by omega⟩) = s (ix2 n j) := by
  have hj : 512 + j.val < 1024 := by omega
  unfold sides
  refine concatenate_apply_piece 1 _ _ (ix2 n ⟨512 + j.val, hj⟩) 1 (by simp) S32768x512 _ ?_ rfl 512 ?_ (ix2 n j) ?_ rfl
  · rfl
  · rfl
  intro b hb
  match b with
  | ⟨0, _⟩ => rfl
  | ⟨1, _⟩ => exact absurd rfl hb

/-- The sum over the contracted axis, its first half and its second. -/
theorem halves (f : Fin 1024 → EReal) : ∑ j, f j = (∑ j : Fin 512, f ⟨j.val, by omega⟩) + ∑ j : Fin 512, f ⟨512 + j.val, by omega⟩ :=
  Fin.sum_univ_add (a := 512) (b := 512) f

theorem nextRows_at (n : Fin 32768) (d : Fin 1024) :
    nextRows x a s w (ix2 n d)
      = x (ix2 n d) + ∑ j : Fin 512, a (ix2 n j) * w (ix2 ⟨j.val, by omega⟩ d) + ∑ j : Fin 512, s (ix2 n j) * w (ix2 ⟨512 + j.val, by omega⟩ d) := by
  have e : nextRows x a s w (ix2 n d) = x (ix2 n d) + ∑ j : Fin 1024, sides a s (ix2 n j) * w (ix2 j d) := by pointwise [nextRows]
  rw [e, halves, add_assoc]
  simp only [sides_first, sides_second]

theorem nextTiles_at (y : FVec Ideal S32768x1024 .f32) (n : Fin 32768) (s : Fin 8) (l : Fin 128) :
    nextTiles g y (ix2 ⟨8 * n.val + s.val, by omega⟩ l) = rowNorm (fun j => y (ix2 n j)) (fun j => g (ix1 j)) ⟨s.val * 128 + l.val, by omega⟩ := by
  rw [← normedRows_at]
  unfold nextTiles
  refine shapeCast_apply _ _ _ _ ?_
  rw [Shape.rowMajor_val_two, Shape.rowMajor_val_two]
  show n.val * 1024 + (s.val * 128 + l.val) = (8 * n.val + s.val) * 128 + l.val
  omega

end Cert.Reference4Ideal.Output

end
-- ==== Proof.Output.Equation.lean ====
/- The equation of the first output projection: its first two outputs are the reference's. -/
module

public import proofs.«01_k».proof.Proof.Output.Grid
public import proofs.«01_k».proof.Proof.Output.Stages

@[expose] public section

noncomputable section

namespace Cert.Output

open Cert.Kernel4Ideal Cert.Kernel4Ideal.Gen Idealize.ShloMosaic Idealize.ShloMosaic.TcCoe Idealize.SL.Sem
open _root_.Projection (rowNorm)
open Cert.Reference4Ideal.Output (nextRows nextTiles nextRows_at nextTiles_at)

variable (m : (ℓ : Loc nD τ sig) → Buf (Elt Ideal) ℓ) (c : Dev nD)

/-- The grid point that works on row `n`. -/
def pointOf (n : Fin 32768) : Fin cfg0.N := ⟨n.val / 512, lt_of_lt_of_eq (by omega : n.val / 512 < 64) N_0.symm⟩

/-! ## What a point computes, at an index -/

theorem mixed_at (x0 : FVec Ideal S512x1024 .f32) (x1 x2 : FVec Ideal S512x512 .bf16) (x3 x4 : FVec Ideal S512x1024 .bf16) (r : Fin 512) (d : Fin 1024) :
    mixed x0 x1 x2 x3 x4 (ix2 r d)
      = x0 (ix2 r d) + ∑ j : Fin 512, x1 (ix2 r j) * x3 (ix2 j d) + ∑ j : Fin 512, x2 (ix2 r j) * x4 (ix2 j d) := by
  pointwise [mixed]

theorem normed_at (y : FVec Ideal S512x1024 .f32) (g : FVec Ideal S1x1024 .f32) (r : Fin 512) (j : Fin 1024) :
    normed y g (ix2 r j) = rowNorm (fun k => y (ix2 r k)) (fun k => g (ix2 0 k)) j := by
  pointwise [normed, scale]
  rfl

/-! ## The blocks a point reads: its 512 rows, and the other operands whole -/

theorem read_rows (n : Fin 32768) (y : Fin 1024) :
    (iblk m c 0 (pointOf n) : Vec Ideal S512x1024 .f32) (ix2 ⟨n.val % 512, by omega⟩ y) = V m c main_arg0 (ix2 n y) := by
  have e : ∀ t : Fin cfg0.N, win0_0.index t (0 : Fin 2) = t.val ∧ win0_0.index t (1 : Fin 2) = 0 := (by decide +kernel : ∀ t : Fin grid0.N, _)
  unfold iblk
  rw [View.read_apply]
  show V m c main_arg0 _ = V m c main_arg0 _
  congr 1
  funext a
  apply Fin.ext
  match a with
  | ⟨0, _⟩ => show win0_0.index (pointOf n) 0 * 512 + 1 * (n.val % 512) = n.val; rw [(e (pointOf n)).1]; show n.val / 512 * 512 + _ = _; omega
  | ⟨1, _⟩ => show win0_0.index (pointOf n) 1 * 1024 + 1 * y.val = y.val; rw [(e (pointOf n)).2]; omega

theorem read_attn (n : Fin 32768) (y : Fin 512) :
    (iblk m c 1 (pointOf n) : Vec Ideal S512x512 .bf16) (ix2 ⟨n.val % 512, by omega⟩ y) = V m c main_v0 (ix2 n y) := by
  have e : ∀ t : Fin cfg0.N, win0_1.index t (0 : Fin 2) = t.val ∧ win0_1.index t (1 : Fin 2) = 0 := (by decide +kernel : ∀ t : Fin grid0.N, _)
  unfold iblk
  rw [View.read_apply]
  show V m c main_v0 _ = V m c main_v0 _
  congr 1
  funext a
  apply Fin.ext
  match a with
  | ⟨0, _⟩ => show win0_1.index (pointOf n) 0 * 512 + 1 * (n.val % 512) = n.val; rw [(e (pointOf n)).1]; show n.val / 512 * 512 + _ = _; omega
  | ⟨1, _⟩ => show win0_1.index (pointOf n) 1 * 512 + 1 * y.val = y.val; rw [(e (pointOf n)).2]; omega

theorem read_ssd (n : Fin 32768) (y : Fin 512) :
    (iblk m c 2 (pointOf n) : Vec Ideal S512x512 .bf16) (ix2 ⟨n.val % 512, by omega⟩ y) = V m c main_v1 (ix2 n y) := by
  have e : ∀ t : Fin cfg0.N, win0_2.index t (0 : Fin 2) = t.val ∧ win0_2.index t (1 : Fin 2) = 0 := (by decide +kernel : ∀ t : Fin grid0.N, _)
  unfold iblk
  rw [View.read_apply]
  show V m c main_v1 _ = V m c main_v1 _
  congr 1
  funext a
  apply Fin.ext
  match a with
  | ⟨0, _⟩ => show win0_2.index (pointOf n) 0 * 512 + 1 * (n.val % 512) = n.val; rw [(e (pointOf n)).1]; show n.val / 512 * 512 + _ = _; omega
  | ⟨1, _⟩ => show win0_2.index (pointOf n) 1 * 512 + 1 * y.val = y.val; rw [(e (pointOf n)).2]; omega

theorem read_wa (t : Fin cfg0.N) : (iblk m c 3 t : Vec Ideal S512x1024 .bf16) = V m c main_v20 := by
  have e : ∀ t : Fin cfg0.N, win0_3.index t (0 : Fin 2) = 0 ∧ win0_3.index t (1 : Fin 2) = 0 := (by decide +kernel : ∀ t : Fin grid0.N, _)
  funext x
  unfold iblk
  rw [View.read_apply]
  show V m c main_v20 _ = V m c main_v20 _
  congr 1
  funext a
  apply Fin.ext
  match a with
  | ⟨0, _⟩ => show win0_3.index t 0 * 512 + 1 * (x 0).val = (x 0).val; rw [(e t).1]; omega
  | ⟨1, _⟩ => show win0_3.index t 1 * 1024 + 1 * (x 1).val = (x 1).val; rw [(e t).2]; omega

theorem read_ws (t : Fin cfg0.N) : (iblk m c 4 t : Vec Ideal S512x1024 .bf16) = V m c main_v21 := by
  have e : ∀ t : Fin cfg0.N, win0_4.index t (0 : Fin 2) = 0 ∧ win0_4.index t (1 : Fin 2) = 0 := (by decide +kernel : ∀ t : Fin grid0.N, _)
  funext x
  unfold iblk
  rw [View.read_apply]
  show V m c main_v21 _ = V m c main_v21 _
  congr 1
  funext a
  apply Fin.ext
  match a with
  | ⟨0, _⟩ => show win0_4.index t 0 * 512 + 1 * (x 0).val = (x 0).val; rw [(e t).1]; omega
  | ⟨1, _⟩ => show win0_4.index t 1 * 1024 + 1 * (x 1).val = (x 1).val; rw [(e t).2]; omega

theorem read_norm (t : Fin cfg0.N) : (iblk m c 5 t : Vec Ideal S1x1024 .f32) = V m c main_v22 := by
  have e : ∀ t : Fin cfg0.N, win0_5.index t (0 : Fin 2) = 0 ∧ win0_5.index t (1 : Fin 2) = 0 := (by decide +kernel : ∀ t : Fin grid0.N, _)
  funext x
  unfold iblk
  rw [View.read_apply]
  show V m c main_v22 _ = V m c main_v22 _
  congr 1
  funext a
  apply Fin.ext
  match a with
  | ⟨0, _⟩ => show win0_5.index t 0 * 1 + 1 * (x 0).val = (x 0).val; rw [(e t).1]; omega
  | ⟨1, _⟩ => show win0_5.index t 1 * 1024 + 1 * (x 1).val = (x 1).val; rw [(e t).2]; omega

/-! ## The operands the host prepares -/

def argRows : FVec Ideal S32768x1024 .f32 := m (c.tc.loc main_arg0)
def argAttn : FVec Ideal S32768x512 .f32 := m (c.tc.loc main_arg1)
def argSsd : FVec Ideal S32768x512 .f32 := m (c.tc.loc main_arg2)
def argWeights : FVec Ideal S1024x1024 .f32 := m (c.tc.loc main_arg3)
def argNorm : FVec Ideal S1024 .f32 := m (c.tc.loc main_arg4)

theorem host_attn (n : Fin 32768) (y : Fin 512) : (V m c main_v0 : FVec Ideal S32768x512 .bf16) (ix2 n y) = argAttn m c (ix2 n y) := by
  have e : (V m c main_v0 : FVec Ideal S32768x512 .bf16) = truncf .bf16 (argAttn m c) bitsLt_bf16_f32 := by
    show StableHlo.after hostOps0 (fun b => m (c, b)) (Proc.devRef .tc main_v0) = _
    unfold hostOps0
    after_results
    rfl
  rw [e]
  pointwise

theorem host_ssd (n : Fin 32768) (y : Fin 512) : (V m c main_v1 : FVec Ideal S32768x512 .bf16) (ix2 n y) = argSsd m c (ix2 n y) := by
  have e : (V m c main_v1 : FVec Ideal S32768x512 .bf16) = truncf .bf16 (argSsd m c) bitsLt_bf16_f32 := by
    show StableHlo.after hostOps0 (fun b => m (c, b)) (Proc.devRef .tc main_v1) = _
    unfold hostOps0
    after_results
    rfl
  rw [e]
  pointwise

theorem host_wa (j : Fin 512) (d : Fin 1024) : (V m c main_v20 : FVec Ideal S512x1024 .bf16) (ix2 j d) = argWeights m c (ix2 ⟨j.val, by omega⟩ d) := by
  have e : (V m c main_v20 : FVec Ideal S512x1024 .bf16)
      = truncf .bf16 (extractStridedSlice S512x1024 ![0, 0] (argWeights m c) slices_S1024x1024_S512x1024_0_0) bitsLt_bf16_f32 := by
    show StableHlo.after hostOps0 (fun b => m (c, b)) (Proc.devRef .tc main_v20) = _
    unfold hostOps0
    after_results
    rfl
  rw [e]
  pointwise

theorem host_ws (j : Fin 512) (d : Fin 1024) : (V m c main_v21 : FVec Ideal S512x1024 .bf16) (ix2 j d) = argWeights m c (ix2 ⟨512 + j.val, by omega⟩ d) := by
  have e : (V m c main_v21 : FVec Ideal S512x1024 .bf16)
      = truncf .bf16 (extractStridedSlice S512x1024 ![512, 0] (argWeights m c) slices_S1024x1024_S512x1024_512_0) bitsLt_bf16_f32 := by
    show StableHlo.after hostOps0 (fun b => m (c, b)) (Proc.devRef .tc main_v21) = _
    unfold hostOps0
    after_results
    rfl
  rw [e]
  pointwise

theorem host_norm (y : Fin 1024) : (V m c main_v22 : FVec Ideal S1x1024 .f32) (ix2 0 y) = argNorm m c (ix1 y) := by
  have e : (V m c main_v22 : FVec Ideal S1x1024 .f32) = shapeCast S1x1024 (argNorm m c) shapeCasts_S1024_S1x1024 := by
    show StableHlo.after hostOps0 (fun b => m (c, b)) (Proc.devRef .tc main_v22) = _
    unfold hostOps0
    after_results
    rfl
  rw [e]
  pointwise

/-! ## The arrays -/

/-- The reference's rows, from what the kernel was launched with. -/
def wanted : FVec Ideal S32768x1024 .f32 := nextRows (argRows m c) (argAttn m c) (argSsd m c) (argWeights m c)

theorem rows_at (n : Fin 32768) (d : Fin 1024) : rows m c (pointOf n) (ix2 ⟨n.val % 512, by omega⟩ d) = wanted m c (ix2 n d) := by
  unfold wanted rows
  rw [nextRows_at, mixed_at, read_rows, V_main_arg0, read_wa, read_ws]
  refine congrArg₂ (· + ·) (congrArg₂ (· + ·) rfl ?_) ?_
  · exact Finset.sum_congr rfl fun j _ => congrArg₂ (· * ·) ((read_attn m c n j).trans (host_attn m c n j)) (host_wa m c j d)
  · exact Finset.sum_congr rfl fun j _ => congrArg₂ (· * ·) ((read_ssd m c n j).trans (host_ssd m c n j)) (host_ws m c j d)

theorem tiles_row (n : Fin 32768) (s : Fin 8) (l : Fin 128) :
    normedTiles m c (pointOf n) (ix2 ⟨8 * (n.val % 512) + s.val, by omega⟩ l)
      = nextTiles (argNorm m c) (wanted m c) (ix2 ⟨8 * n.val + s.val, by omega⟩ l) := by
  rw [nextTiles_at]
  unfold normedTiles
  refine (tiles_at _ ⟨n.val % 512, by omega⟩ s l).trans ?_
  rw [normed_at, read_norm]
  simp only [rows_at]
  exact congrArg (fun g => rowNorm _ g _) (funext fun k => host_norm m c k)

theorem separate_9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h =>
    hne ((by decide +kernel : ∀ t t' : Fin grid0.N, win0_9.index t = win0_9.index t' → t = t') t t' h)

theorem separate_10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h =>
    hne ((by decide +kernel : ∀ t t' : Fin grid0.N, win0_10.index t = win0_10.index t' → t = t') t t' h)

theorem array_rows (n : Fin 32768) (d : Fin 1024) :
    ((dats m 0 c).arrAt 9 cfg0.N : FVec Ideal S32768x1024 .f32) (ix2 n d) = wanted m c (ix2 n d) := by
  have e : ∀ t : Fin cfg0.N, win0_9.index t (0 : Fin 2) = t.val ∧ win0_9.index t (1 : Fin 2) = 0 := (by decide +kernel : ∀ t : Fin grid0.N, _)
  have h := congrFun ((dats m 0 c).read_blk_arrAt_eq_flushed 9 separate_9 cfg0.N (pointOf n) (pointOf n).isLt (flush0_9 _)) (ix2 ⟨n.val % 512, by omega⟩ d)
  rw [View.read_apply] at h
  have i : ((cfg0.win 9).blk (pointOf n)).view.emb (ix2 (⟨n.val % 512, by omega⟩ : Fin 512) d) = (ix2 n d : S32768x1024.Idx) := by
    funext a
    apply Fin.ext
    match a with
    | ⟨0, _⟩ => show win0_9.index (pointOf n) 0 * 512 + 1 * (n.val % 512) = n.val; rw [(e _).1]; show n.val / 512 * 512 + _ = _; omega
    | ⟨1, _⟩ => show win0_9.index (pointOf n) 1 * 1024 + 1 * d.val = d.val; rw [(e _).2]; omega
  rw [← i]
  refine h.trans ?_
  show (dats m 0 c).after 9 (pointOf n) (ix2 ⟨n.val % 512, by omega⟩ d) = _
  rw [after_9, i, rows_at]

theorem array_tiles (n : Fin 32768) (s : Fin 8) (l : Fin 128) :
    ((dats m 0 c).arrAt 10 cfg0.N : FVec Ideal S262144x128 .f32) (ix2 ⟨8 * n.val + s.val, by omega⟩ l)
      = nextTiles (argNorm m c) (wanted m c) (ix2 ⟨8 * n.val + s.val, by omega⟩ l) := by
  have e : ∀ t : Fin cfg0.N, win0_10.index t (0 : Fin 2) = t.val ∧ win0_10.index t (1 : Fin 2) = 0 := (by decide +kernel : ∀ t : Fin grid0.N, _)
  have h := congrFun ((dats m 0 c).read_blk_arrAt_eq_flushed 10 separate_10 cfg0.N (pointOf n) (pointOf n).isLt (flush0_10 _))
    (ix2 ⟨8 * (n.val % 512) + s.val, by omega⟩ l)
  rw [View.read_apply] at h
  have i : ((cfg0.win 10).blk (pointOf n)).view.emb (ix2 (⟨8 * (n.val % 512) + s.val, by omega⟩ : Fin 4096) l)
      = (ix2 ⟨8 * n.val + s.val, by omega⟩ l : S262144x128.Idx) := by
    funext a
    apply Fin.ext
    match a with
    | ⟨0, _⟩ =>
      show win0_10.index (pointOf n) 0 * 4096 + 1 * (8 * (n.val % 512) + s.val) = 8 * n.val + s.val
      rw [(e _).1]
      show n.val / 512 * 4096 + _ = _
      omega
    | ⟨1, _⟩ => show win0_10.index (pointOf n) 1 * 128 + 1 * l.val = l.val; rw [(e _).2]; omega
  rw [← i]
  refine h.trans ?_
  show (dats m 0 c).after 10 (pointOf n) (ix2 ⟨8 * (n.val % 512) + s.val, by omega⟩ l) = _
  rw [after_10, i, tiles_row]

theorem rows_eq : nextRows (argRows m c) (argAttn m c) (argSsd m c) (argWeights m c) = (dats m 0 c).arrAt 9 cfg0.N := by
  funext i
  obtain ⟨n, d, rfl⟩ : ∃ n d, i = ix2 n d := ⟨i 0, i 1, eq_ix2 i⟩
  exact (array_rows m c n d).symm

theorem tiles_eq : nextTiles (argNorm m c) (nextRows (argRows m c) (argAttn m c) (argSsd m c) (argWeights m c)) = (dats m 0 c).arrAt 10 cfg0.N := by
  funext i
  obtain ⟨k, l, rfl⟩ : ∃ (k : Fin 262144) (l : Fin 128), i = ix2 k l := ⟨i 0, i 1, eq_ix2 i⟩
  have h := array_tiles m c ⟨k.val / 8, by omega⟩ ⟨k.val % 8, by omega⟩ l
  have hk : (⟨8 * (k.val / 8) + k.val % 8, by omega⟩ : Fin 262144) = k := Fin.ext (by show 8 * (k.val / 8) + k.val % 8 = k.val; omega)
  simp only [hk] at h
  exact h.symm

end Cert.Output

end
-- ==== Proof.Output.Machine.lean ====
/- The first output projection as the machine runs it. The program read over the reals is the machine's program with nothing rewritten, so
   at the machine's values the two are one program, and the run of Grid.lean is the machine's run too. -/
module

public import proofs.«01_k».proof.Proof.Output.Grid
public import proofs.«01_k».proof.Proof.Gen.Kernel4
public import proofs.«01_k».proof.Defs

@[expose] public section

set_option maxRecDepth 16384

noncomputable section

namespace Cert.Output

open Idealize.ShloMosaic Idealize.ShloMosaic.TcCoe Idealize.SL.Sem

section

open Cert.Kernel4Ideal Cert.Kernel4Ideal.Gen

variable {F : FTy → Type} [FloatOps F]

/-- The run, with what the grid wrote left unsaid: the arguments as they were and every counter at zero. -/
theorem arguments_kept (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (outcome m ρ)

end

set_option maxHeartbeats 4000000 in
theorem same_bodies : @Cert.Kernel4.defs₀ Bits _ _ = @Cert.Kernel4Ideal.defs₀ Bits _ _ :=
  congrArg Defs.onTc (funext fun l => match l with
    | 0 => rfl
    | ⟨_ + 1, h⟩ => absurd h (Nat.not_lt.2 (Nat.le_add_left _ _)))

set_option maxHeartbeats 4000000 in
theorem same_defs : @Cert.Kernel4.defs Bits _ _ = @Cert.Kernel4Ideal.defs Bits _ _ := by
  unfold Cert.Kernel4.defs Cert.Kernel4Ideal.defs
  rw [same_bodies]
  rfl

set_option maxHeartbeats 4000000 in
theorem same_main : @Cert.Kernel4.main Bits _ _ = @Cert.Kernel4Ideal.main Bits _ _ := rfl

set_option maxHeartbeats 4000000 in
/-- The machine's program runs and leaves its arguments. -/
theorem machine_frame : Cert.quiescent_Kernel4 := fun m ρ _ => by
  rw [same_defs, same_main]
  exact arguments_kept m ρ

end Cert.Output

end
-- ==== Proof.Mapped.Block.lean ====
/- What a grid point of the second output projection computes from its blocks: the rows. It norms them as the first layer's does. -/
module

public import proofs.«01_k».proof.Proof.Gen.Kernel5Ideal.Points

@[expose] public section

noncomputable section

namespace Cert.Mapped

open Idealize.ShloMosaic Idealize.ShloMosaic.TcCoe
open Cert.Kernel5Ideal Cert.Kernel5Ideal.Gen

variable {F : FTy → Type} [FloatOps F]

/-- The residual rows plus one product. -/
def mixed (x0 : FVec F S512x1024 .f32) (x1 : FVec F S512x1024 .bf16) (x2 : FVec F S1024x1024 .bf16) : FVec F S512x1024 .f32 :=
  addf x0
    (matmul dot_S512x1024_S1024x1024_S512x1024_1_0_0_1_n_n none (shapeCast S512x1024 x1 shapeCasts_S512x1024_S512x1024)
      (shapeCast S1024x1024 x2 shapeCasts_S1024x1024_S1024x1024) (constant S512x1024 .f32 0x00000000#32))

end Cert.Mapped

end
-- ==== Proof.Mapped.Run.lean ====
/- One grid point of the second output projection, run on its blocks. -/
module

public import proofs.«01_k».proof.Proof.Gen.Kernel5Ideal.Frame
public import proofs.«01_k».proof.Proof.Mapped.Block
public import proofs.«01_k».proof.Proof.Output.Run

@[expose] public section

set_option maxRecDepth 16384

noncomputable section

namespace Cert.Mapped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Output (zero_offsets tiles normed whole_read eight_read stored)

variable {F : FTy → Type} [FloatOps F]

set_option maxHeartbeats 4000000 in
/-- From blocks that hold the inputs, the body leaves them as they are, the rows in the first output and the normalized rows' tiles in the second. -/
theorem run (c : Dev nD) (i : grid0.Coords)
    (arg1 : Memref sig .tc .vmem S512x1024 .f32) (harg1 : arg1.IsWhole)
    (arg2 : Memref sig .tc .vmem S512x1024 .bf16) (harg2 : arg2.IsWhole)
    (arg3 : Memref sig .tc .vmem S1024x1024 .bf16) (harg3 : arg3.IsWhole)
    (arg4 : Memref sig .tc .vmem S1x1024 .f32) (harg4 : arg4.IsWhole)
    (arg5 : Memref sig .tc .vmem S1024x128 .bf16) (harg5 : arg5.IsWhole)
    (arg6 : Memref sig .tc .vmem S1024x128 .bf16) (harg6 : arg6.IsWhole)
    (arg7 : Memref sig .tc .vmem S1x128 .f32) (harg7 : arg7.IsWhole)
    (arg8 : Memref sig .tc .vmem S512x1024 .f32) (harg8 : arg8.IsWhole)
    (arg9 : Memref sig .tc .vmem S4096x128 .f32) (harg9 : arg9.IsWhole)
    (arg10 : Memref sig .tc .vmem S512x128 .i32) (harg10 : arg10.IsWhole)
    (arg11 : Memref sig .tc .vmem S512x128 .f32) (harg11 : arg11.IsWhole)
    (arg12 : Memref sig .tc .vmem S8x128 .f32) (harg12 : arg12.IsWhole)
    (x0 : Vec F S512x1024 .f32) (x1 : Vec F S512x1024 .bf16) (x2 : Vec F S1024x1024 .bf16) (x3 : Vec F S1x1024 .f32) (x4 : Vec F S1024x128 .bf16) (x5 : Vec F S1024x128 .bf16) (x6 : Vec F S1x128 .f32)
    (E : Set ℕ) (K : PUnit → sProp (MT nD τ sig Unit (Elt F) ℕ (UR sig nD τ) ℕ)) :
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (mixed x0 x1 x2) ∗ owns (c : Thread nD τ) arg9 fullShare (tiles (normed (mixed x0 x1 x2) x3)) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_proj_router i arg1 harg1 arg2 harg2 arg3 harg3 arg4 harg4 arg5 harg5 arg6 harg6 arg7 harg7 arg8 harg8 arg9 harg9 arg10 harg10 arg11 harg11 arg12 harg12) K := by
  unfold cc0_proj_router k0_part1 k0_part2 k0_part3 k0_part4 k0_part5
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; swap; · iexact H7
    ipureintro
    refine (whole_read zero_offsets arg8 _ _ _).trans ?_
    sl_unfold_words
    simp only [View.readAt_eq_ld, Memref.IsWhole.read_unread, View.ld_unit_zero (S := S512x1024) zero_offsets, View.ld_unit_zero (S := S1024x1024) zero_offsets]
    rfl
  isplitl [H8]
  · iexists _; isplitr; swap; · iexact H8
    ipureintro
    sl_unfold_words
    simp only [View.readAt_eq_ld, Memref.IsWhole.read_unread, View.ld_unit_zero (S := S512x1024) zero_offsets, View.ld_unit_zero (S := S1024x1024) zero_offsets, View.ld_unit_zero (S := S1x1024) zero_offsets]
    exact eight_read arg9.view _ (normed (mixed x0 x1 x2) x3) (stored (by omega) _ _ rfl _) (stored (by omega) _ _ rfl _) (stored (by omega) _ _ rfl _) (stored (by omega) _ _ rfl _)
      (stored (by omega) _ _ rfl _) (stored (by omega) _ _ rfl _) (stored (by omega) _ _ rfl _) (stored (by omega) _ _ rfl _)
  isplitl [H9]
  · iexists _; iexists _; isplitr; swap; · iexact H9
    ipureintro; rfl
  isplitl [H10]
  · iexists _; iexists _; isplitr; swap; · iexact H10
    ipureintro; rfl
  iexists _; iexists _; isplitr; swap; · iexact H11
  ipureintro; rfl

end Cert.Mapped

end
-- ==== Proof.Mapped.Grid.lean ====
/- The second output projection run over its whole grid: what its first two outputs hold at the end, and that it leaves its arguments alone. -/
module

public import proofs.«01_k».proof.Proof.Mapped.Run

@[expose] public section

set_option maxRecDepth 16384

noncomputable section

namespace Cert.Mapped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen
open Cert.Output (tiles normed)

variable {F : FTy → Type} [FloatOps F]
variable (m : (ℓ : Loc nD τ sig) → Buf (Elt F) ℓ) (ρ : Dev nD → PrngReg)

/-- The rows a grid point leaves in the first output. -/
def rows (c : Dev nD) (t : Fin cfg0.N) : FVec F S512x1024 .f32 := mixed (iblk m c 0 t) (iblk m c 1 t) (iblk m c 2 t)

/-- The tiles it leaves in the second. -/
def normedTiles (c : Dev nD) (t : Fin cfg0.N) : FVec F S4096x128 .f32 := tiles (normed (rows m c t) (iblk m c 3 t))

/-- Of the three router outputs nothing is kept. -/
def forgotten : Fin 12 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true

/-- What each window holds after a grid point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => rows m c t
    | ⟨8, _⟩ => normedTiles m c t
    | ⟨9, _⟩ => fun _ => Classical.arbitrary _
    | ⟨10, _⟩ => fun _ => Classical.arbitrary _
    | ⟨11, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = rows m c t := by dsimp only [dats]
theorem after_8 (c : Dev nD) (t : Fin cfg0.N) : (dats m 0 c).after 8 t = normedTiles m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- What a grid point starts from. -/
def entry (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

/-- What it ends with. -/
def exit (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d))

theorem step (c : Dev nD) (t : Fin cfg0.N) :
    entry m c t ⊢ wp frame (wpE (defs₀ (F := F)) Variants.none c none) Set.univ (bodyAt0 t) (fun _ => exit m c t) := by
  unfold entry exit bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8]
  unfold normedTiles rows
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply run c (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) Set.univ _
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgotten := fun t => by
  rw [bigSep_W0, bigSep_W0, body_row]
  exact triple_restated (step m c t) rfl .rfl fun _ => .rfl

/-- The buffers that the lines after the grid write. -/
def tail : Finset (Ref sig .tc) := {main_v20, main_v21, main_v22}

theorem tail_writes : ∀ ops ∈ ([hostOps1] : List (List (HloOp τ sig (Elt F)))), ∀ op ∈ ops, ∀ b : Ref sig .tc, Proc.devRef .tc b ∈ op.writes → b ∈ tail := by
  intro ops hops op hop b hb
  simp only [List.mem_cons, List.mem_nil_iff, or_false] at hops
  subst hops
  simp only [hostOps1, List.mem_cons, List.mem_nil_iff, or_false] at hop
  rcases hop with rfl | rfl | rfl
  all_goals
    simp only [StableHlo.nullary_writes, StableHlo.unary_writes, StableHlo.binary_writes, StableHlo.reshape_writes, Finset.mem_singleton] at hb
    have hb' := Proc.devRef_injective .tc hb
    subst hb'
    decide

set_option backward.isDefEq.respectTransparency.types false in
theorem launched : θ_run defs (onTc (τ := τ) (main (F := F))) (s₀ m ρ) (fun r =>
    Pipeline.RDat.FramePostR cfg0 (fun c => (dats m 0 c).toRForget forgotten) tail (fun c b => V m c b) r ∧ r.2.sem = fun _ => 0) :=
  Pipeline.θ_run_frame_around_T_forget (Q' := _) cfgs (dats m) (0 : Fin 1) launch0 defs₀ Variants.none forgotten tail m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := A_eq m) (hΦ := fun _ _ => rfl) (hQ' := fun _ h => h)

/-- What the run leaves: the two outputs' arrays at the contents the grid wrote, the arguments as they were, every counter at zero. -/
theorem outcome : θ_run defs (onTc (τ := τ) (main (F := F))) ⟨m, fun _ => 0, ρ⟩ (fun r => (∀ c : Dev nD,
      (r.2.mem ((cfg0.spec 7).arr.view.loc (c.tc : Thread nD τ)) = (dats m 0 c).arrAt 7 cfg0.N
        ∧ r.2.mem ((cfg0.spec 8).arr.view.loc (c.tc : Thread nD τ)) = (dats m 0 c).arrAt 8 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨⟨((dats m 0 c).toRForget_arrAt_iff (fgt := forgotten) (w := 7) (by decide) _ _).mp ((h.1 c).1 7),
      ((dats m 0 c).toRForget_arrAt_iff (fgt := forgotten) (w := 8) (by decide) _ _).mp ((h.1 c).1 8)⟩,
    (((dats m 0 c).toRForget_arrAt_iff (fgt := forgotten) (w := 0) (by decide) _ _).mp ((h.1 c).1 0)).trans (((dats m 0 c).arrAt_in 0 rfl _).trans ((A_eq m c 0).trans (V_main_arg0 m c))),
    ((h.1 c).2 main_arg1 (Finset.mem_sdiff.mpr ⟨Pipeline.mem_restRefs_of main_arg1 (by decide) (by decide), by decide⟩)).trans (V_main_arg1 m c),
    ((h.1 c).2 main_arg2 (Finset.mem_sdiff.mpr ⟨Pipeline.mem_restRefs_of main_arg2 (by decide) (by decide), by decide⟩)).trans (V_main_arg2 m c),
    ((h.1 c).2 main_arg3 (Finset.mem_sdiff.mpr ⟨Pipeline.mem_restRefs_of main_arg3 (by decide) (by decide), by decide⟩)).trans (V_main_arg3 m c),
    ((h.1 c).2 main_arg4 (Finset.mem_sdiff.mpr ⟨Pipeline.mem_restRefs_of main_arg4 (by decide) (by decide), by decide⟩)).trans (V_main_arg4 m c),
    ((h.1 c).2 main_arg5 (Finset.mem_sdiff.mpr ⟨Pipeline.mem_restRefs_of main_arg5 (by decide) (by decide), by decide⟩)).trans (V_main_arg5 m c),
    ((h.1 c).2 main_arg6 (Finset.mem_sdiff.mpr ⟨Pipeline.mem_restRefs_of main_arg6 (by decide) (by decide), by decide⟩)).trans (V_main_arg6 m c),
    ((h.1 c).2 main_arg7 (Finset.mem_sdiff.mpr ⟨Pipeline.mem_restRefs_of main_arg7 (by decide) (by decide), by decide⟩)).trans (V_main_arg7 m c)⟩, h.2⟩) (launched m ρ)

end Cert.Mapped

end
-- ==== Proof.Mapped.Stages.lean ====
/- The reference of the second output projection: its two results, at an index. -/
module

public import proofs.«01_k».proof.Proof.Gen.Reference5Ideal
public import proofs.«01_k».proof.Proof.Output.Stages

@[expose] public section

noncomputable section

namespace Cert.Reference5Ideal.Mapped

open Cert.Reference5Ideal Cert.Reference5Ideal.Gen Idealize.ShloMosaic Idealize.ShloMosaic.TcCoe
open scoped Idealize.ShloMosaic.TcCoe

/-- The rows of the next residual: the rows plus the transformed rows times the weights. -/
def nextRows (x f : FVec Ideal S32768x1024 .f32) (w : FVec Ideal S1024x1024 .f32) : FVec Ideal S32768x1024 .f32 :=
  addf x (Host.dotGeneral dot_S32768x1024_S1024x1024_S32768x1024_1_0_0_1_n_n none f w)

theorem nextRows_at (x f : FVec Ideal S32768x1024 .f32) (w : FVec Ideal S1024x1024 .f32) (n : Fin 32768) (d : Fin 1024) :
    nextRows x f w (ix2 n d) = x (ix2 n d) + ∑ j : Fin 1024, f (ix2 n j) * w (ix2 j d) := by
  pointwise [nextRows]

end Cert.Reference5Ideal.Mapped

end
-- ==== Proof.Mapped.Equation.lean ====
/- The equation of the second output projection: its first two outputs are the reference's. -/
module

public import proofs.«01_k».proof.Proof.Mapped.Grid
public import proofs.«01_k».proof.Proof.Mapped.Stages
public import proofs.«01_k».proof.Proof.Output.Equation

@[expose] public section

noncomputable section

namespace Cert.Mapped

open Cert.Kernel5Ideal Cert.Kernel5Ideal.Gen Idealize.ShloMosaic Idealize.ShloMosaic.TcCoe Idealize.SL.Sem
open _root_.Projection (rowNorm)
open Cert.Output (tiles_at normed_at)
open Cert.Reference4Ideal.Output (nextTiles nextTiles_at)
open Cert.Reference5Ideal.Mapped (nextRows nextRows_at)

variable (m : (ℓ : Loc nD τ sig) → Buf (Elt Ideal) ℓ) (c : Dev nD)

/-- The grid point that works on row `n`. -/
def pointOf (n : Fin 32768) : Fin cfg0.N := ⟨n.val / 512, lt_of_lt_of_eq (by omega : n.val / 512 < 64) N_0.symm⟩

theorem mixed_at (x0 : FVec Ideal S512x1024 .f32) (x1 : FVec Ideal S512x1024 .bf16) (x2 : FVec Ideal S1024x1024 .bf16) (r : Fin 512) (d : Fin 1024) :
    mixed x0 x1 x2 (ix2 r d) = x0 (ix2 r d) + ∑ j : Fin 1024, x1 (ix2 r j) * x2 (ix2 j d) := by
  pointwise [mixed]

/-! ## The blocks a point reads: its 512 rows, and the other operands whole -/

theorem read_rows (n : Fin 32768) (y : Fin 1024) :
    (iblk m c 0 (pointOf n) : Vec Ideal S512x1024 .f32) (ix2 ⟨n.val % 512, by omega⟩ y) = V m c main_arg0 (ix2 n y) := by
  have e : ∀ t : Fin cfg0.N, win0_0.index t (0 : Fin 2) = t.val ∧ win0_0.index t (1 : Fin 2) = 0 := (by decide +kernel : ∀ t : Fin grid0.N, _)
  unfold iblk
  rw [View.read_apply]
  show V m c main_arg0 _ = V m c main_arg0 _
  congr 1
  funext a
  apply Fin.ext
  match a with
  | ⟨0, _⟩ => show win0_0.index (pointOf n) 0 * 512 + 1 * (n.val % 512) = n.val; rw [(e (pointOf n)).1]; show n.val / 512 * 512 + _ = _; omega
  | ⟨1, _⟩ => show win0_0.index (pointOf n) 1 * 1024 + 1 * y.val = y.val; rw [(e (pointOf n)).2]; omega

theorem read_turned (n : Fin 32768) (y : Fin 1024) :
    (iblk m c 1 (pointOf n) : Vec Ideal S512x1024 .bf16) (ix2 ⟨n.val % 512, by omega⟩ y) = V m c main_v0 (ix2 n y) := by
  have e : ∀ t : Fin cfg0.N, win0_1.index t (0 : Fin 2) = t.val ∧ win0_1.index t (1 : Fin 2) = 0 := (by decide +kernel : ∀ t : Fin grid0.N, _)
  unfold iblk
  rw [View.read_apply]
  show V m c main_v0 _ = V m c main_v0 _
  congr 1
  funext a
  apply Fin.ext
  match a with
  | ⟨0, _⟩ => show win0_1.index (pointOf n) 0 * 512 + 1 * (n.val % 512) = n.val; rw [(e (pointOf n)).1]; show n.val / 512 * 512 + _ = _; omega
  | ⟨1, _⟩ => show win0_1.index (pointOf n) 1 * 1024 + 1 * y.val = y.val; rw [(e (pointOf n)).2]; omega

theorem read_weights (t : Fin cfg0.N) : (iblk m c 2 t : Vec Ideal S1024x1024 .bf16) = V m c main_v17 := by
  have e : ∀ t : Fin cfg0.N, win0_2.index t (0 : Fin 2) = 0 ∧ win0_2.index t (1 : Fin 2) = 0 := (by decide +kernel : ∀ t : Fin grid0.N, _)
  funext x
  unfold iblk
  rw [View.read_apply]
  show V m c main_v17 _ = V m c main_v17 _
  congr 1
  funext a
  apply Fin.ext
  match a with
  | ⟨0, _⟩ => show win0_2.index t 0 * 1024 + 1 * (x 0).val = (x 0).val; rw [(e t).1]; omega
  | ⟨1, _⟩ => show win0_2.index t 1 * 1024 + 1 * (x 1).val = (x 1).val; rw [(e t).2]; omega

theorem read_norm (t : Fin cfg0.N) : (iblk m c 3 t : Vec Ideal S1x1024 .f32) = V m c main_v18 := by
  have e : ∀ t : Fin cfg0.N, win0_3.index t (0 : Fin 2) = 0 ∧ win0_3.index t (1 : Fin 2) = 0 := (by decide +kernel : ∀ t : Fin grid0.N, _)
  funext x
  unfold iblk
  rw [View.read_apply]
  show V m c main_v18 _ = V m c main_v18 _
  congr 1
  funext a
  apply Fin.ext
  match a with
  | ⟨0, _⟩ => show win0_3.index t 0 * 1 + 1 * (x 0).val = (x 0).val; rw [(e t).1]; omega
  | ⟨1, _⟩ => show win0_3.index t 1 * 1024 + 1 * (x 1).val = (x 1).val; rw [(e t).2]; omega

/-! ## The operands the host prepares -/

def argRows : FVec Ideal S32768x1024 .f32 := m (c.tc.loc main_arg0)
def argTurned : FVec Ideal S32768x1024 .f32 := m (c.tc.loc main_arg1)
def argWeights : FVec Ideal S1024x1024 .f32 := m (c.tc.loc main_arg2)
def argNorm : FVec Ideal S1024 .f32 := m (c.tc.loc main_arg3)

theorem host_turned (n : Fin 32768) (y : Fin 1024) : (V m c main_v0 : FVec Ideal S32768x1024 .bf16) (ix2 n y) = argTurned m c (ix2 n y) := by
  have e : (V m c main_v0 : FVec Ideal S32768x1024 .bf16) = truncf .bf16 (argTurned m c) bitsLt_bf16_f32 := by
    show StableHlo.after hostOps0 (fun b => m (c, b)) (Proc.devRef .tc main_v0) = _
    unfold hostOps0
    after_results
    rfl
  rw [e]
  pointwise

theorem host_weights (j d : Fin 1024) : (V m c main_v17 : FVec Ideal S1024x1024 .bf16) (ix2 j d) = argWeights m c (ix2 j d) := by
  have e : (V m c main_v17 : FVec Ideal S1024x1024 .bf16) = truncf .bf16 (argWeights m c) bitsLt_bf16_f32 := by
    show StableHlo.after hostOps0 (fun b => m (c, b)) (Proc.devRef .tc main_v17) = _
    unfold hostOps0
    after_results
    rfl
  rw [e]
  pointwise

theorem host_norm (y : Fin 1024) : (V m c main_v18 : FVec Ideal S1x1024 .f32) (ix2 0 y) = argNorm m c (ix1 y) := by
  have e : (V m c main_v18 : FVec Ideal S1x1024 .f32) = shapeCast S1x1024 (argNorm m c) shapeCasts_S1024_S1x1024 := by
    show StableHlo.after hostOps0 (fun b => m (c, b)) (Proc.devRef .tc main_v18) = _
    unfold hostOps0
    after_results
    rfl
  rw [e]
  pointwise

/-! ## The arrays -/

/-- The reference's rows, from what the kernel was launched with. -/
def wanted : FVec Ideal S32768x1024 .f32 := nextRows (argRows m c) (argTurned m c) (argWeights m c)

theorem rows_at (n : Fin 32768) (d : Fin 1024) : rows m c (pointOf n) (ix2 ⟨n.val % 512, by omega⟩ d) = wanted m c (ix2 n d) := by
  unfold wanted rows
  rw [nextRows_at, mixed_at, read_rows, V_main_arg0, read_weights]
  exact congrArg₂ (· + ·) rfl (Finset.sum_congr rfl fun j _ => congrArg₂ (· * ·) ((read_turned m c n j).trans (host_turned m c n j)) (host_weights m c j d))

theorem tiles_row (n : Fin 32768) (s : Fin 8) (l : Fin 128) :
    normedTiles m c (pointOf n) (ix2 ⟨8 * (n.val % 512) + s.val, by omega⟩ l)
      = nextTiles (argNorm m c) (wanted m c) (ix2 ⟨8 * n.val + s.val, by omega⟩ l) := by
  rw [nextTiles_at]
  unfold normedTiles
  refine (tiles_at _ ⟨n.val % 512, by omega⟩ s l).trans ?_
  rw [normed_at, read_norm]
  simp only [rows_at]
  exact congrArg (fun g => rowNorm _ g _) (funext fun k => host_norm m c k)

theorem separate_7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h =>
    hne ((by decide +kernel : ∀ t t' : Fin grid0.N, win0_7.index t = win0_7.index t' → t = t') t t' h)

theorem separate_8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h =>
    hne ((by decide +kernel : ∀ t t' : Fin grid0.N, win0_8.index t = win0_8.index t' → t = t') t t' h)

theorem array_rows (n : Fin 32768) (d : Fin 1024) :
    ((dats m 0 c).arrAt 7 cfg0.N : FVec Ideal S32768x1024 .f32) (ix2 n d) = wanted m c (ix2 n d) := by
  have e : ∀ t : Fin cfg0.N, win0_7.index t (0 : Fin 2) = t.val ∧ win0_7.index t (1 : Fin 2) = 0 := (by decide +kernel : ∀ t : Fin grid0.N, _)
  have h := congrFun ((dats m 0 c).read_blk_arrAt_eq_flushed 7 separate_7 cfg0.N (pointOf n) (pointOf n).isLt (flush0_7 _)) (ix2 ⟨n.val % 512, by omega⟩ d)
  rw [View.read_apply] at h
  have i : ((cfg0.win 7).blk (pointOf n)).view.emb (ix2 (⟨n.val % 512, by omega⟩ : Fin 512) d) = (ix2 n d : S32768x1024.Idx) := by
    funext a
    apply Fin.ext
    match a with
    | ⟨0, _⟩ => show win0_7.index (pointOf n) 0 * 512 + 1 * (n.val % 512) = n.val; rw [(e _).1]; show n.val / 512 * 512 + _ = _; omega
    | ⟨1, _⟩ => show win0_7.index (pointOf n) 1 * 1024 + 1 * d.val = d.val; rw [(e _).2]; omega
  rw [← i]
  refine h.trans ?_
  show (dats m 0 c).after 7 (pointOf n) (ix2 ⟨n.val % 512, by omega⟩ d) = _
  rw [after_7, i, rows_at]

theorem array_tiles (n : Fin 32768) (s : Fin 8) (l : Fin 128) :
    ((dats m 0 c).arrAt 8 cfg0.N : FVec Ideal S262144x128 .f32) (ix2 ⟨8 * n.val + s.val, by omega⟩ l)
      = nextTiles (argNorm m c) (wanted m c) (ix2 ⟨8 * n.val + s.val, by omega⟩ l) := by
  have e : ∀ t : Fin cfg0.N, win0_8.index t (0 : Fin 2) = t.val ∧ win0_8.index t (1 : Fin 2) = 0 := (by decide +kernel : ∀ t : Fin grid0.N, _)
  have h := congrFun ((dats m 0 c).read_blk_arrAt_eq_flushed 8 separate_8 cfg0.N (pointOf n) (pointOf n).isLt (flush0_8 _))
    (ix2 ⟨8 * (n.val % 512) + s.val, by omega⟩ l)
  rw [View.read_apply] at h
  have i : ((cfg0.win 8).blk (pointOf n)).view.emb (ix2 (⟨8 * (n.val % 512) + s.val, by omega⟩ : Fin 4096) l)
      = (ix2 ⟨8 * n.val + s.val, by omega⟩ l : S262144x128.Idx) := by
    funext a
    apply Fin.ext
    match a with
    | ⟨0, _⟩ =>
      show win0_8.index (pointOf n) 0 * 4096 + 1 * (8 * (n.val % 512) + s.val) = 8 * n.val + s.val
      rw [(e _).1]
      show n.val / 512 * 4096 + _ = _
      omega
    | ⟨1, _⟩ => show win0_8.index (pointOf n) 1 * 128 + 1 * l.val = l.val; rw [(e _).2]; omega
  rw [← i]
  refine h.trans ?_
  show (dats m 0 c).after 8 (pointOf n) (ix2 ⟨8 * (n.val % 512) + s.val, by omega⟩ l) = _
  rw [after_8, i, tiles_row]

theorem rows_eq : nextRows (argRows m c) (argTurned m c) (argWeights m c) = (dats m 0 c).arrAt 7 cfg0.N := by
  funext i
  obtain ⟨n, d, rfl⟩ : ∃ n d, i = ix2 n d := ⟨i 0, i 1, eq_ix2 i⟩
  exact (array_rows m c n d).symm

theorem tiles_eq : nextTiles (argNorm m c) (nextRows (argRows m c) (argTurned m c) (argWeights m c)) = (dats m 0 c).arrAt 8 cfg0.N := by
  funext i
  obtain ⟨k, l, rfl⟩ : ∃ (k : Fin 262144) (l : Fin 128), i = ix2 k l := ⟨i 0, i 1, eq_ix2 i⟩
  have h := array_tiles m c ⟨k.val / 8, by omega⟩ ⟨k.val % 8, by omega⟩ l
  have hk : (⟨8 * (k.val / 8) + k.val % 8, by omega⟩ : Fin 262144) = k := Fin.ext (by show 8 * (k.val / 8) + k.val % 8 = k.val; omega)
  simp only [hk] at h
  exact h.symm

end Cert.Mapped

end
-- ==== Proof.Mapped.Machine.lean ====
/- The second output projection as the machine runs it. The program read over the reals is the machine's program with nothing rewritten, so
   at the machine's values the two are one program, and the run of Grid.lean is the machine's run too. -/
module

public import proofs.«01_k».proof.Proof.Mapped.Grid
public import proofs.«01_k».proof.Proof.Gen.Kernel5
public import proofs.«01_k».proof.Defs

@[expose] public section

set_option maxRecDepth 16384

noncomputable section

namespace Cert.Mapped

open Idealize.ShloMosaic Idealize.ShloMosaic.TcCoe Idealize.SL.Sem

section

open Cert.Kernel5Ideal Cert.Kernel5Ideal.Gen

variable {F : FTy → Type} [FloatOps F]

/-- The run, with what the grid wrote left unsaid: the arguments as they were and every counter at zero. -/
theorem arguments_kept (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (outcome m ρ)

end

set_option maxHeartbeats 4000000 in
theorem same_bodies : @Cert.Kernel5.defs₀ Bits _ _ = @Cert.Kernel5Ideal.defs₀ Bits _ _ :=
  congrArg Defs.onTc (funext fun l => match l with
    | 0 => rfl
    | ⟨_ + 1, h⟩ => absurd h (Nat.not_lt.2 (Nat.le_add_left _ _)))

set_option maxHeartbeats 4000000 in
theorem same_defs : @Cert.Kernel5.defs Bits _ _ = @Cert.Kernel5Ideal.defs Bits _ _ := by
  unfold Cert.Kernel5.defs Cert.Kernel5Ideal.defs
  rw [same_bodies]
  rfl

set_option maxHeartbeats 4000000 in
theorem same_main : @Cert.Kernel5.main Bits _ _ = @Cert.Kernel5Ideal.main Bits _ _ := rfl

set_option maxHeartbeats 4000000 in
/-- The machine's program runs and leaves its arguments. -/
theorem machine_frame : Cert.quiescent_Kernel5 := fun m ρ _ => by
  rw [same_defs, same_main]
  exact arguments_kept m ρ

end Cert.Mapped

end
-- ==== Proof.Channels.Block.lean ====
/- What a grid point of the combination with the transform over channels writes: its combined rows, and the rows' normalized channels, in four
   groups of 256, times the table of cosines and times the table of sines. -/
module

public import proofs.«01_k».proof.Proof.Gen.Kernel6Ideal.Value
public import proofs.«01_k».proof.Proof.Combine.Block
public import proofs.«01_k».proof.Proof.Output.Equation

@[expose] public section

noncomputable section

namespace Cert.Kernel6Ideal.Channels

open Cert.Kernel6Ideal Cert.Kernel6Ideal.Gen Idealize.ShloMosaic Idealize.ShloMosaic.TcCoe Idealize.SL.Sem
open Cert.Kernel3Ideal.Combine (combined assembled zero_offsets)
open _root_.Projection (rowNorm)

variable (m : (ℓ : Loc nD τ sig) → Buf (Elt Ideal) ℓ)

/-- Channel `d` of a row: the 256 channels of its group, each times its entry of the table's column. -/
def grouped (h : FVec Ideal S512x1024 .bf16) (t : FVec Ideal S256x256 .bf16) (r : Fin 512) (d : Fin 1024) : EReal :=
  ∑ j : Fin 256, h (ix2 r ⟨d.val / 256 * 256 + j.val, by omega⟩) * t (ix2 j ⟨d.val % 256, by omega⟩)

/-- A block given entry by entry. -/
def blocksOf (f : Fin 512 → Fin 1024 → EReal) : Vec Ideal S512x1024 .bf16 := fun y => f (y 0) (y 1)

/-- Where channel `d` of group `g` lies in the block. -/
theorem group_index (g : Fin 4) (r : Fin 512) (d : Fin 256) (i : S512x1024.Idx) (h0 : (i 0).val = r.val) (h1 : (i 1).val = g.val * 256 + d.val) :
    i = ix2 r ⟨g.val * 256 + d.val, by omega⟩ := by
  rw [eq_ix2 i]
  congr 1
  · exact Fin.ext h0
  · exact Fin.ext h1

theorem grouped_lane (h : FVec Ideal S512x1024 .bf16) (t : FVec Ideal S256x256 .bf16) (g : Fin 4) (r : Fin 512) (d : Fin 256) :
    grouped h t r ⟨g.val * 256 + d.val, by omega⟩ = ∑ j : Fin 256, h (ix2 r ⟨g.val * 256 + j.val, by omega⟩) * t (ix2 j d) := by
  unfold grouped
  have q : (g.val * 256 + d.val) / 256 = g.val := by omega
  have e : (g.val * 256 + d.val) % 256 = d.val := by omega
  simp only [q, e]

section Groups

variable (h : FVec Ideal S512x1024 .bf16) (t : FVec Ideal S256x256 .bf16) (r : Fin 512) (d : Fin 256)

theorem cosines3 : k0_pay15 h t (ix2 r d) = grouped h t r ⟨3 * 256 + d.val, by omega⟩ := by
  refine Eq.trans ?_ (grouped_lane h t 3 r d).symm
  pointwise [k0_pay15, k0_pay14]

theorem sines3 : k0_pay16 h t (ix2 r d) = grouped h t r ⟨3 * 256 + d.val, by omega⟩ := by
  refine Eq.trans ?_ (grouped_lane h t 3 r d).symm
  pointwise [k0_pay16, k0_pay14]

theorem cosines2 : k0_pay12 h t (ix2 r d) = grouped h t r ⟨2 * 256 + d.val, by omega⟩ := by
  refine Eq.trans ?_ (grouped_lane h t 2 r d).symm
  pointwise [k0_pay12, k0_pay11]

theorem sines2 : k0_pay13 h t (ix2 r d) = grouped h t r ⟨2 * 256 + d.val, by omega⟩ := by
  refine Eq.trans ?_ (grouped_lane h t 2 r d).symm
  pointwise [k0_pay13, k0_pay11]

end Groups

/-- Four groups stored as four times 256 lanes make up the block. -/
theorem stored (p3 p2 p1 p0 : FVec Ideal S512x256 .bf16) (h : FVec Ideal S512x1024 .bf16) (t : FVec Ideal S256x256 .bf16)
    (h3 : ∀ (r : Fin 512) (l : Fin 256), p3 (ix2 r l) = grouped h t r ⟨3 * 256 + l.val, by omega⟩)
    (h2 : ∀ (r : Fin 512) (l : Fin 256), p2 (ix2 r l) = grouped h t r ⟨2 * 256 + l.val, by omega⟩)
    (h1 : ∀ (r : Fin 512) (l : Fin 256), p1 (ix2 r l) = grouped h t r ⟨1 * 256 + l.val, by omega⟩)
    (h0 : ∀ (r : Fin 512) (l : Fin 256), p0 (ix2 r l) = grouped h t r ⟨0 * 256 + l.val, by omega⟩) (r : Fin 512) (y : Fin 1024) :
    View.canon (Val := Elt Ideal) ([⟨Rect.unit (s := S512x1024) ![0, 768] S512x256.size inb_S512x1024_S512x256_0_768, p3⟩,
        ⟨Rect.unit (s := S512x1024) ![0, 512] S512x256.size inb_S512x1024_S512x256_0_512, p2⟩,
        ⟨Rect.unit (s := S512x1024) ![0, 256] S512x256.size inb_S512x1024_S512x256_0_256, p1⟩,
        ⟨Rect.unit (s := S512x1024) ![0, 0] S512x256.size inb_S512x1024_S512x256_0_0, p0⟩] :
          List (View.Piece (Elt Ideal) S512x1024 .bf16)) (ix2 r y)
      = grouped h t r y := by
  refine View.canon_apply_of_pieces (Val := Elt Ideal) (blocksOf (grouped h t)) _ ?_ (ix2 r y) (by exact View.cover_of_tiledL _ ![512, 256] (by sl_kernel_rfl) _)
  intro pc hpc
  rcases List.mem_cons.mp hpc with rfl | hpc
  · intro x
    obtain ⟨r, l, rfl⟩ : ∃ r l, x = ix2 r l := ⟨x 0, x 1, eq_ix2 x⟩
    show p3 (ix2 r l) = blocksOf (grouped h t) ((Rect.unit (s := S512x1024) ![0, 768] S512x256.size inb_S512x1024_S512x256_0_768).emb (ix2 r l))
    rw [group_index 3 r l ((Rect.unit (s := S512x1024) ![0, 768] S512x256.size inb_S512x1024_S512x256_0_768).emb (ix2 r l)) (by show 0 + 1 * r.val = r.val; omega) (by show 768 + 1 * l.val = 3 * 256 + l.val; omega)]
    exact h3 r l
  rcases List.mem_cons.mp hpc with rfl | hpc
  · intro x
    obtain ⟨r, l, rfl⟩ : ∃ r l, x = ix2 r l := ⟨x 0, x 1, eq_ix2 x⟩
    show p2 (ix2 r l) = blocksOf (grouped h t) ((Rect.unit (s := S512x1024) ![0, 512] S512x256.size inb_S512x1024_S512x256_0_512).emb (ix2 r l))
    rw [group_index 2 r l ((Rect.unit (s := S512x1024) ![0, 512] S512x256.size inb_S512x1024_S512x256_0_512).emb (ix2 r l)) (by show 0 + 1 * r.val = r.val; omega) (by show 512 + 1 * l.val = 2 * 256 + l.val; omega)]
    exact h2 r l
  rcases List.mem_cons.mp hpc with rfl | hpc
  · intro x
    obtain ⟨r, l, rfl⟩ : ∃ r l, x = ix2 r l := ⟨x 0, x 1, eq_ix2 x⟩
    show p1 (ix2 r l) = blocksOf (grouped h t) ((Rect.unit (s := S512x1024) ![0, 256] S512x256.size inb_S512x1024_S512x256_0_256).emb (ix2 r l))
    rw [group_index 1 r l ((Rect.unit (s := S512x1024) ![0, 256] S512x256.size inb_S512x1024_S512x256_0_256).emb (ix2 r l)) (by show 0 + 1 * r.val = r.val; omega) (by show 256 + 1 * l.val = 1 * 256 + l.val; omega)]
    exact h1 r l
  rcases List.mem_cons.mp hpc with rfl | hpc
  · intro x
    obtain ⟨r, l, rfl⟩ : ∃ r l, x = ix2 r l := ⟨x 0, x 1, eq_ix2 x⟩
    show p0 (ix2 r l) = blocksOf (grouped h t) ((Rect.unit (s := S512x1024) ![0, 0] S512x256.size inb_S512x1024_S512x256_0_0).emb (ix2 r l))
    rw [group_index 0 r l ((Rect.unit (s := S512x1024) ![0, 0] S512x256.size inb_S512x1024_S512x256_0_0).emb (ix2 r l)) (by show 0 + 1 * r.val = r.val; omega) (by show 0 + 1 * l.val = 0 * 256 + l.val; omega)]
    exact h0 r l
  nomatch hpc

section Firsts

variable (v : FVec Ideal S512x1024 .f32) (w : FVec Ideal S512x1 .f32) (a b c d e f g h : FVec Ideal S512x128 .f32) (n : FVec Ideal S1x1024 .f32)
  (t : FVec Ideal S256x256 .bf16) (r : Fin 512) (l : Fin 256)

theorem cosines1 : k0_pay9 v w a b c d e f g h n t (ix2 r l) = grouped (k0_pay4 v w a b c d e f g h n) t r ⟨1 * 256 + l.val, by omega⟩ := by
  refine Eq.trans ?_ (grouped_lane _ t 1 r l).symm
  generalize hk : k0_pay4 v w a b c d e f g h n = k
  unfold k0_pay9 k0_pay8
  rw [hk]
  pointwise

theorem sines1 : k0_pay10 (k0_pay8 v w a b c d e f g h n) t (ix2 r l) = grouped (k0_pay4 v w a b c d e f g h n) t r ⟨1 * 256 + l.val, by omega⟩ := by
  refine Eq.trans ?_ (grouped_lane _ t 1 r l).symm
  generalize hk : k0_pay4 v w a b c d e f g h n = k
  unfold k0_pay10 k0_pay8
  rw [hk]
  pointwise

theorem cosines0 : k0_pay6 v w a b c d e f g h n t (ix2 r l) = grouped (k0_pay4 v w a b c d e f g h n) t r ⟨0 * 256 + l.val, by omega⟩ := by
  refine Eq.trans ?_ (grouped_lane _ t 0 r l).symm
  generalize hk : k0_pay4 v w a b c d e f g h n = k
  unfold k0_pay6 k0_pay5
  rw [hk]
  pointwise

theorem sines0 : k0_pay7 v w a b c d e f g h n t (ix2 r l) = grouped (k0_pay4 v w a b c d e f g h n) t r ⟨0 * 256 + l.val, by omega⟩ := by
  refine Eq.trans ?_ (grouped_lane _ t 0 r l).symm
  generalize hk : k0_pay4 v w a b c d e f g h n = k
  unfold k0_pay7 k0_pay5
  rw [hk]
  pointwise

theorem normed_at (j : Fin 1024) :
    k0_pay4 v w a b c d e f g h n (ix2 r j) = rowNorm (fun k => k0_pay3 v w a b c d e f g h (ix2 r k)) (fun k => n (ix2 0 k)) j :=
  Cert.Output.normed_at (k0_pay3 v w a b c d e f g h) n r j

end Firsts

/-- The eight strided loads of a block of tiles: load `k` holds tile `k` of every row. -/
theorem strided {κ : Kind} {sp : Space} (a : Memref sig κ sp S4096x128 .f32) (ha : a.IsWhole) (x : Vec Ideal S4096x128 .f32) (r : Fin 512) (k : Fin 8) (l : Fin 128)
    (s : ℕ) (hs : s = k.val) (hin : ∀ b, S512x128.size b = 0 ∨ (![s, 0] : Fin 2 → ℕ) b + (![8, 1] : Fin 2 → ℕ) b * (S512x128.size b - 1) < S4096x128.size b) :
    View.readAt (Elt Ideal) a.view ⟨![s, 0], S512x128.size, ![8, 1], hin⟩ (ha.unread x) (ix2 r l) = x (ix2 ⟨8 * r.val + k.val, by omega⟩ l) := by
  subst hs
  rw [View.readAt_apply, ha.read_unread]
  congr 1
  funext b
  apply Fin.ext
  match b with
  | ⟨0, _⟩ => show k.val + 8 * r.val = 8 * r.val + k.val; omega
  | ⟨1, _⟩ => show 0 + 1 * l.val = l.val; omega

theorem loads {κ : Kind} {sp : Space} (a : Memref sig κ sp S4096x128 .f32) (ha : a.IsWhole) (x : Vec Ideal S4096x128 .f32) (r : Fin 512) (k : Fin 8) (l : Fin 128) :
    (![View.readAt (Elt Ideal) a.view ⟨![0, 0], S512x128.size, ![8, 1], inb_S4096x128_S512x128_0_0_s_8_1⟩ (ha.unread x),
       View.readAt (Elt Ideal) a.view ⟨![1, 0], S512x128.size, ![8, 1], inb_S4096x128_S512x128_1_0_s_8_1⟩ (ha.unread x),
       View.readAt (Elt Ideal) a.view ⟨![2, 0], S512x128.size, ![8, 1], inb_S4096x128_S512x128_2_0_s_8_1⟩ (ha.unread x),
       View.readAt (Elt Ideal) a.view ⟨![3, 0], S512x128.size, ![8, 1], inb_S4096x128_S512x128_3_0_s_8_1⟩ (ha.unread x),
       View.readAt (Elt Ideal) a.view ⟨![4, 0], S512x128.size, ![8, 1], inb_S4096x128_S512x128_4_0_s_8_1⟩ (ha.unread x),
       View.readAt (Elt Ideal) a.view ⟨![5, 0], S512x128.size, ![8, 1], inb_S4096x128_S512x128_5_0_s_8_1⟩ (ha.unread x),
       View.readAt (Elt Ideal) a.view ⟨![6, 0], S512x128.size, ![8, 1], inb_S4096x128_S512x128_6_0_s_8_1⟩ (ha.unread x),
       View.readAt (Elt Ideal) a.view ⟨![7, 0], S512x128.size, ![8, 1], inb_S4096x128_S512x128_7_0_s_8_1⟩ (ha.unread x)] k) (ix2 r l)
      = x (ix2 ⟨8 * r.val + k.val, by omega⟩ l) := by
  match k with
  | ⟨0, _⟩ => exact strided a ha x r 0 l 0 rfl _
  | ⟨1, _⟩ => exact strided a ha x r 1 l 1 rfl _
  | ⟨2, _⟩ => exact strided a ha x r 2 l 2 rfl _
  | ⟨3, _⟩ => exact strided a ha x r 3 l 3 rfl _
  | ⟨4, _⟩ => exact strided a ha x r 4 l 4 rfl _
  | ⟨5, _⟩ => exact strided a ha x r 5 l 5 rfl _
  | ⟨6, _⟩ => exact strided a ha x r 6 l 6 rfl _
  | ⟨7, _⟩ => exact strided a ha x r 7 l 7 rfl _

/-- The combined rows, from tiles that hold the strided rows. -/
theorem rows_at (x0 : FVec Ideal S512x1024 .f32) (x1 x2 : FVec Ideal S4096x128 .f32) (x3 : FVec Ideal S512x128 .f32)
    (a b c d e f g h a' b' c' d' e' f' g' h' : FVec Ideal S512x128 .f32)
    (h1 : ∀ (r : Fin 512) (k : Fin 8) (l : Fin 128), (![a, b, c, d, e, f, g, h] k) (ix2 r l) = x1 (ix2 ⟨8 * r.val + k.val, by omega⟩ l))
    (h2 : ∀ (r : Fin 512) (k : Fin 8) (l : Fin 128), (![a', b', c', d', e', f', g', h'] k) (ix2 r l) = x2 (ix2 ⟨8 * r.val + k.val, by omega⟩ l))
    (r : Fin 512) (y : Fin 1024) :
    k0_pay3 (F := Ideal) (k0_pay1 x3 x0 a b c d e f g h) (k0_pay2 x3) a' b' c' d' e' f' g' h' (ix2 r y) = combined x0 x1 x2 x3 r y := by
  have h := assembled x0 x1 x2 x3 a b c d e f g h a' b' c' d' e' f' g' h' r ⟨y.val / 128, by omega⟩ ⟨y.val % 128, by omega⟩ (h1 _ _ _) (h2 _ _ _)
  have hy : (⟨y.val / 128 * 128 + y.val % 128, by omega⟩ : Fin 1024) = y := Fin.ext (by show y.val / 128 * 128 + y.val % 128 = y.val; omega)
  simp only [hy] at h
  exact h

/-- The block of combined rows. -/
theorem block_rows (c : Dev nD) (t : Fin cfg0.N) (r : Fin 512) (y : Fin 1024) :
    (outsAt0 (F := Ideal) m c t).1 (ix2 r y) = combined (iblk m c 0 t) (iblk m c 1 t) (iblk m c 2 t) (iblk m c 3 t) r y := by
  unfold outsAt0 out0_A_7
  dsimp only
  rw [View.read_writes_eq_canon _ _ _ (cover0_A_7 _ _ _ _ _ _ _ _ _ _ _ _ _ _ _ _ _ _ _ _ _ _ _ _ _ _ _ _ _)]
  unfold kernelRun0_A
  dsimp only
  sl_unfold_words
  rw [View.canon_unit_zero zero_offsets]
  simp only [View.readAt_eq_ld, Memref.IsWhole.read_unread, View.ld_unit_zero (S := S512x1024) zero_offsets, View.ld_unit_zero (S := S512x128) zero_offsets]
  refine rows_at _ _ _ _ _ _ _ _ _ _ _ _ _ _ _ _ _ _ _ _ (loads _ _ _) (loads _ _ _) r y

/-- Channel `y` of row `r` of the block: the row normalized, its group of channels times the table. -/
def transformed (x0 : Vec Ideal S512x1024 .f32) (x1 x2 : Vec Ideal S4096x128 .f32) (x3 : Vec Ideal S512x128 .f32) (x4 : Vec Ideal S1x1024 .f32)
    (t : Vec Ideal S256x256 .bf16) (r : Fin 512) (y : Fin 1024) : EReal :=
  ∑ j : Fin 256, rowNorm (fun k => combined x0 x1 x2 x3 r k) (fun k => x4 (ix2 0 k)) ⟨y.val / 256 * 256 + j.val, by omega⟩
    * t (ix2 j ⟨y.val % 256, by omega⟩)

theorem transformed_of (x0 : FVec Ideal S512x1024 .f32) (x1 x2 : FVec Ideal S4096x128 .f32) (x3 : FVec Ideal S512x128 .f32)
    (v : FVec Ideal S512x1024 .f32) (w : FVec Ideal S512x1 .f32) (a b c d e f g h : FVec Ideal S512x128 .f32) (n : FVec Ideal S1x1024 .f32)
    (t : FVec Ideal S256x256 .bf16) (r : Fin 512) (y : Fin 1024)
    (hv : ∀ k, k0_pay3 (F := Ideal) v w a b c d e f g h (ix2 r k) = combined x0 x1 x2 x3 r k) :
    grouped (k0_pay4 (F := Ideal) v w a b c d e f g h n) t r y = transformed x0 x1 x2 x3 n t r y := by
  unfold grouped transformed
  refine Finset.sum_congr rfl fun j _ => congrArg (· * _) ?_
  rw [normed_at]
  exact congrArg (fun s => rowNorm s _ _) (funext hv)

/-- The block of products with the cosines. -/
theorem block_cosines (c : Dev nD) (t : Fin cfg0.N) (r : Fin 512) (y : Fin 1024) :
    (outsAt0 (F := Ideal) m c t).2.1 (ix2 r y)
      = transformed (iblk m c 0 t) (iblk m c 1 t) (iblk m c 2 t) (iblk m c 3 t) (iblk m c 4 t) (iblk m c 5 t) r y := by
  unfold outsAt0 out0_A_8
  dsimp only
  rw [View.read_writes_eq_canon _ _ _ (cover0_A_8 _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S512x1024) zero_offsets, View.ld_unit_zero (S := S512x128) zero_offsets,
    View.ld_unit_zero (S := S1x1024) zero_offsets, View.ld_unit_zero (S := S256x256) zero_offsets]
  refine (stored _ _ _ _ _ _ (cosines3 _ _) (cosines2 _ _) (cosines1 _ _ _ _ _ _ _ _ _ _ _ _) (cosines0 _ _ _ _ _ _ _ _ _ _ _ _) r y).trans (transformed_of _ _ _ _ _ _ _ _ _ _ _ _ _ _ _ _ r y fun k => ?_)
  refine rows_at _ _ _ _ _ _ _ _ _ _ _ _ _ _ _ _ _ _ _ _ (loads _ _ _) (loads _ _ _) r k

/-- The block of products with the sines. -/
theorem block_sines (c : Dev nD) (t : Fin cfg0.N) (r : Fin 512) (y : Fin 1024) :
    (outsAt0 (F := Ideal) m c t).2.2 (ix2 r y)
      = transformed (iblk m c 0 t) (iblk m c 1 t) (iblk m c 2 t) (iblk m c 3 t) (iblk m c 4 t) (iblk m c 6 t) r y := by
  unfold outsAt0 out0_A_9
  dsimp only
  rw [View.read_writes_eq_canon _ _ _ (cover0_A_9 _ _ _ _ _ _ _ _ _ _ _ _ _ _ _ _ _ _ _ _ _ _ _ _ _ _ _ _ _)]
  unfold kernelRun0_A
  dsimp only
  sl_unfold_words
  simp only [View.readAt_eq_ld, Memref.IsWhole.read_unread, View.ld_unit_zero (S := S512x1024) zero_offsets, View.ld_unit_zero (S := S512x128) zero_offsets,
    View.ld_unit_zero (S := S1x1024) zero_offsets, View.ld_unit_zero (S := S256x256) zero_offsets]
  refine (stored _ _ _ _ _ _ (sines3 _ _) (sines2 _ _) (sines1 _ _ _ _ _ _ _ _ _ _ _ _) (sines0 _ _ _ _ _ _ _ _ _ _ _ _) r y).trans (transformed_of _ _ _ _ _ _ _ _ _ _ _ _ _ _ _ _ r y fun k => ?_)
  refine rows_at _ _ _ _ _ _ _ _ _ _ _ _ _ _ _ _ _ _ _ _ (loads _ _ _) (loads _ _ _) r k

end Cert.Kernel6Ideal.Channels

end
-- ==== Proof.Channels.Stages.lean ====
/- The reference of the transform over channels: the table of angles, its cosines and its sines, and a row's normalized channels, in four groups
   of 256, times a table. -/
module

public import proofs.«01_k».proof.Proof.Gen.Reference6Ideal
public import proofs.«01_k».proof.Proof.Projection.Stages

@[expose] public section

noncomputable section

namespace Cert.Reference6Ideal.Channels

open Cert.Reference6Ideal Cert.Reference6Ideal.Gen Idealize.ShloMosaic Idealize.ShloMosaic.TcCoe Idealize.SL.Sem

/-- Row number times column number. -/
def products : IVec S256x256 32 :=
  muli (broadcastInDim S256x256 ![0, 1] bcast_S256x1_S256x256_0_1 (broadcastInDim S256x1 ![0] bcast_S256_S256x1_0 (iotaInDim S256 32 0)))
    (broadcastInDim S256x256 ![0, 1] bcast_S1x256_S256x256_0_1 (broadcastInDim S1x256 ![1] bcast_S256_S1x256_1 (iotaInDim S256 32 0)))

/-- The number of steps in a full turn; a remainder by zero would be taken by one. -/
def steps : IVec S_ 32 := select (cmpi .eq (id (constantI S_ 32 256#32)) (constantI S_ 32 0#32)) (constantI S_ 32 1#32) (id (constantI S_ 32 256#32))

/-- The remainder with the sign of the product. -/
def rests : IVec S256x256 32 := Host.remsi products (broadcastInDim S256x256 ![] bcast_S_S256x256 steps)

/-- The product's remainder after full turns, with the sign of the divisor. -/
def turns : IVec S256x256 32 :=
  select (andi (cmpi .ne (cmpi .slt rests (broadcastInDim S256x256 ![] bcast_S_S256x256 (constantI S_ 32 0#32)))
      (broadcastInDim S256x256 ![] bcast_S_S256x256 (cmpi .slt steps (constantI S_ 32 0#32))))
    (cmpi .ne rests (broadcastInDim S256x256 ![] bcast_S_S256x256 (constantI S_ 32 0#32))))
    (addi rests (broadcastInDim S256x256 ![] bcast_S_S256x256 steps)) rests

/-- The angles. -/
def angles : FVec Ideal S256x256 .f32 := mulf (broadcastInDim S256x256 ![] bcast_S_S256x256 (constant S_ .f32 0x3CC90FDB#32)) (sitofp .f32 turns)

/-- The cosines over the root of the number of channels. -/
def cosines : FVec Ideal S256x256 .f32 := mulf (broadcastInDim S256x256 ![] bcast_S_S256x256 (constant S_ .f32 0x3D800000#32)) (Host.cos angles)

/-- The sines over the root of the number of channels. -/
def sines : FVec Ideal S256x256 .f32 := mulf (broadcastInDim S256x256 ![] bcast_S_S256x256 (constant S_ .f32 0x3D800000#32)) (Host.sin angles)

variable (h : FVec Ideal S32768x1024 .f32) (t : FVec Ideal S256x256 .f32)

/-- The channels of every row as four groups of 256. -/
def groups : FVec Ideal S32768x4x256 .f32 := shapeCast _ h shapeCasts_S32768x1024_S32768x4x256

/-- Every group times the table. -/
def groupProducts : FVec Ideal S32768x4x256 .f32 := Host.dotGeneral dot_S32768x4x256_S256x256_S32768x4x256_2_0_01_1_n_n none (groups h) t

/-- The groups side by side again. -/
def transformed : FVec Ideal S32768x1024 .bf16 := truncf .bf16 (shapeCast S32768x1024 (groupProducts h t) shapeCasts_S32768x4x256_S32768x1024) bitsLt_bf16_f32

theorem groups_at (n : Fin 32768) (g : Fin 4) (j : Fin 256) : groups h (ix3 n g j) = h (ix2 n ⟨g.val * 256 + j.val, by omega⟩) := by
  unfold groups
  refine shapeCast_apply _ _ _ _ ?_
  rw [Shape.rowMajor_val_two, Shape.rowMajor_val_three]
  show n.val * 1024 + (g.val * 256 + j.val) = (n.val * 4 + g.val) * 256 + j.val
  omega

theorem groupProducts_at (n : Fin 32768) (g : Fin 4) (k : Fin 256) :
    groupProducts h t (ix3 n g k) = ∑ j : Fin 256, h (ix2 n ⟨g.val * 256 + j.val, by omega⟩) * t (ix2 j k) := by
  have e : groupProducts h t (ix3 n g k) = ∑ j : Fin 256, groups h (ix3 n g j) * t (ix2 j k) := by pointwise [groupProducts]
  rw [e]
  exact Finset.sum_congr rfl fun j _ => congrArg (· * _) (groups_at h n g j)

theorem transformed_at (n : Fin 32768) (d : Fin 1024) :
    transformed h t (ix2 n d) = ∑ j : Fin 256, h (ix2 n ⟨d.val / 256 * 256 + j.val, by omega⟩) * t (ix2 j ⟨d.val % 256, by omega⟩) := by
  refine Eq.trans ?_ (groupProducts_at h t n ⟨d.val / 256, by omega⟩ ⟨d.val % 256, by omega⟩)
  show shapeCast S32768x1024 (groupProducts h t) shapeCasts_S32768x4x256_S32768x1024 (ix2 n d) = _
  refine shapeCast_apply _ _ _ _ ?_
  rw [Shape.rowMajor_val_two, Shape.rowMajor_val_three]
  show (n.val * 4 + d.val / 256) * 256 + d.val % 256 = n.val * 1024 + d.val
  omega

end Cert.Reference6Ideal.Channels

end
-- ==== Proof.Channels.Tables.lean ====
/- What the call of the combination with the transform over channels receives besides its arguments: the two tables and the norm's weights as a
   row. The tables are the reference's. -/
module

public import proofs.«01_k».proof.Proof.Gen.Kernel6Ideal.Value
public import proofs.«01_k».proof.Proof.Channels.Stages

@[expose] public section

noncomputable section

namespace Cert.Kernel6Ideal.Channels

open Cert.Kernel6Ideal Cert.Kernel6Ideal.Gen Idealize.ShloMosaic Idealize.ShloMosaic.TcCoe Idealize.SL.Sem
open Cert.Reference6Ideal.Channels (turns angles cosines sines)

variable (m : (ℓ : Loc nD τ sig) → Buf (Elt Ideal) ℓ) (c : Dev nD)

theorem mulf_swap {s : Shape} (x y : FVec Ideal s .f32) : mulf x y = mulf y x := funext fun i => mul_comm (x i) (y i)

/-- The angles, with the factors in the kernel's order. -/
def hostAngles : FVec Ideal S256x256 .f32 := mulf (sitofp .f32 turns) (broadcastInDim S256x256 ![] bcast_S_S256x256 (constant S_ .f32 0x3CC90FDB#32))

theorem hostAngles_eq : hostAngles = angles := mulf_swap _ _

theorem host_cosines : (V m c main_v17 : FVec Ideal S256x256 .bf16) = truncf .bf16 cosines bitsLt_bf16_f32 := by
  have e : (V m c main_v17 : FVec Ideal S256x256 .bf16)
      = truncf .bf16 (mulf (Host.cos hostAngles) (broadcastInDim S256x256 ![] bcast_S_S256x256 (constant S_ .f32 0x3D800000#32))) bitsLt_bf16_f32 := by
    show StableHlo.after (List.flatten [hostOps0, hostOps0_1, hostOps0_2]) (fun b => m (c, b)) (Proc.devRef .tc main_v17) = _
    simp only [hostOps0, hostOps0_1, hostOps0_2, List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp <;> rfl
  rw [e, hostAngles_eq, mulf_swap]
  rfl

theorem host_sines : (V m c main_v18 : FVec Ideal S256x256 .bf16) = truncf .bf16 sines bitsLt_bf16_f32 := by
  have e : (V m c main_v18 : FVec Ideal S256x256 .bf16)
      = truncf .bf16 (mulf (Host.sin hostAngles) (broadcastInDim S256x256 ![] bcast_S_S256x256 (constant S_ .f32 0x3D800000#32))) bitsLt_bf16_f32 := by
    show StableHlo.after (List.flatten [hostOps0, hostOps0_1, hostOps0_2]) (fun b => m (c, b)) (Proc.devRef .tc main_v18) = _
    simp only [hostOps0, hostOps0_1, hostOps0_2, List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp <;> rfl
  rw [e, hostAngles_eq, mulf_swap]
  rfl

theorem host_norm (y : Fin 1024) : (V m c main_v19 : FVec Ideal S1x1024 .f32) (ix2 0 y) = (m (c.tc.loc main_arg3) : FVec Ideal S1024 .f32) (ix1 y) := by
  have e : (V m c main_v19 : FVec Ideal S1x1024 .f32) = shapeCast S1x1024 (m (c.tc.loc main_arg3) : FVec Ideal S1024 .f32) shapeCasts_S1024_S1x1024 := by
    show StableHlo.after (List.flatten [hostOps0, hostOps0_1, hostOps0_2]) (fun b => m (c, b)) (Proc.devRef .tc main_v19) = _
    simp only [hostOps0, hostOps0_1, hostOps0_2, List.flatten_cons, List.flatten_nil, List.append_nil, List.cons_append, List.nil_append,
      StableHlo.TRef.binary, StableHlo.TRef.nullary, StableHlo.TRef.ternary, StableHlo.TRef.unary, StableHlo.TRef.toBuf, StableHlo.TRef.ofBuf, cast_eq]
    after_results_simp <;> rfl
  rw [e]
  pointwise

end Cert.Kernel6Ideal.Channels

end
-- ==== Proof.Channels.Equation.lean ====
/- The equation of the combination with the transform over channels: the kernel's three arrays are the reference's combined rows and those rows'
   normalized channels times the cosines and times the sines. -/
module

public import proofs.«01_k».proof.Proof.Channels.Block
public import proofs.«01_k».proof.Proof.Channels.Tables
public import proofs.«01_k».proof.Proof.Combine.Equation

@[expose] public section

noncomputable section

namespace Cert.Kernel6Ideal.Channels

open Cert.Kernel6Ideal Cert.Kernel6Ideal.Gen Cert.Kernel6Ideal.Value Idealize.ShloMosaic Idealize.ShloMosaic.TcCoe Idealize.SL.Sem
open Cert.Kernel3Ideal.Combine (combined)
open Cert.Reference3Ideal.Combine (total total_at)
open Cert.Reference2Ideal.Projection (normedRows normedRows_at)
open Cert.Reference6Ideal.Channels (cosines sines)
open _root_.Projection (rowNorm)

variable (m : (ℓ : Loc nD τ sig) → Buf (Elt Ideal) ℓ) (c : Dev nD)

/-- The grid point that works on row `n`. -/
def pointOf (n : Fin 32768) : Fin cfg0.N := ⟨n.val / 512, lt_of_lt_of_eq (by omega : n.val / 512 < 64) N_0.symm⟩

/-- The rows, the experts' rows, the gates and the norm's weights as launched. -/
def argRows : FVec Ideal S32768x1024 .f32 := m (c.tc.loc main_arg0)
def argTiles : FVec Ideal S528384x128 .f32 := m (c.tc.loc main_arg1)
def argGates : FVec Ideal S32768x128 .f32 := m (c.tc.loc main_arg2)
def argNorm : FVec Ideal S1024 .f32 := m (c.tc.loc main_arg3)

/-- The reference's combined rows. -/
def sums : FVec Ideal S32768x1024 .f32 := total (argRows m c) (argTiles m c) (argGates m c)

/-! ## The blocks a point reads -/

theorem read_rows (n : Fin 32768) (y : Fin 1024) :
    (iblk m c 0 (pointOf n) : Vec Ideal S512x1024 .f32) (ix2 ⟨n.val % 512, by omega⟩ y) = argRows m c (ix2 n y) := by
  have e : ∀ t : Fin cfg0.N, win0_0.index t (0 : Fin 2) = t.val ∧ win0_0.index t (1 : Fin 2) = 0 := (by decide +kernel : ∀ t : Fin grid0.N, _)
  unfold iblk
  rw [View.read_apply]
  refine (congrFun (V_main_arg0 m c) _).trans ?_
  show argRows m c _ = argRows m c _
  congr 1
  funext a
  apply Fin.ext
  match a with
  | ⟨0, _⟩ => show win0_0.index (pointOf n) 0 * 512 + 1 * (n.val % 512) = n.val; rw [(e (pointOf n)).1]; show n.val / 512 * 512 + _ = _; omega
  | ⟨1, _⟩ => show win0_0.index (pointOf n) 1 * 1024 + 1 * y.val = y.val; rw [(e (pointOf n)).2]; omega

theorem read_first (n : Fin 32768) (k : Fin 8) (l : Fin 128) :
    (iblk m c 1 (pointOf n) : Vec Ideal S4096x128 .f32) (ix2 ⟨8 * (n.val % 512) + k.val, by omega⟩ l)
      = argTiles m c (ix2 ⟨8 * n.val + k.val, by omega⟩ l) := by
  have e : ∀ t : Fin cfg0.N, win0_1.index t (0 : Fin 2) = t.val ∧ win0_1.index t (1 : Fin 2) = 0 := (by decide +kernel : ∀ t : Fin grid0.N, _)
  unfold iblk
  rw [View.read_apply]
  refine (congrFun (V_main_arg1 m c) _).trans ?_
  show argTiles m c _ = argTiles m c _
  congr 1
  funext a
  apply Fin.ext
  match a with
  | ⟨0, _⟩ => show win0_1.index (pointOf n) 0 * 4096 + 1 * (8 * (n.val % 512) + k.val) = 8 * n.val + k.val; rw [(e (pointOf n)).1]; show n.val / 512 * 4096 + _ = _; omega
  | ⟨1, _⟩ => show win0_1.index (pointOf n) 1 * 128 + 1 * l.val = l.val; rw [(e (pointOf n)).2]; omega

theorem read_second (n : Fin 32768) (k : Fin 8) (l : Fin 128) :
    (iblk m c 2 (pointOf n) : Vec Ideal S4096x128 .f32) (ix2 ⟨8 * (n.val % 512) + k.val, by omega⟩ l)
      = argTiles m c (ix2 ⟨262144 + (8 * n.val + k.val), by omega⟩ l) := by
  have e : ∀ t : Fin cfg0.N, win0_2.index t (0 : Fin 2) = t.val + 64 ∧ win0_2.index t (1 : Fin 2) = 0 := (by decide +kernel : ∀ t : Fin grid0.N, _)
  unfold iblk
  rw [View.read_apply]
  refine (congrFun (V_main_arg1 m c) _).trans ?_
  show argTiles m c _ = argTiles m c _
  congr 1
  funext a
  apply Fin.ext
  match a with
  | ⟨0, _⟩ =>
    show win0_2.index (pointOf n) 0 * 4096 + 1 * (8 * (n.val % 512) + k.val) = 262144 + (8 * n.val + k.val)
    rw [(e (pointOf n)).1]
    show (n.val / 512 + 64) * 4096 + _ = _
    omega
  | ⟨1, _⟩ => show win0_2.index (pointOf n) 1 * 128 + 1 * l.val = l.val; rw [(e (pointOf n)).2]; omega

theorem read_gates (n : Fin 32768) (l : Fin 128) :
    (iblk m c 3 (pointOf n) : Vec Ideal S512x128 .f32) (ix2 ⟨n.val % 512, by omega⟩ l) = argGates m c (ix2 n l) := by
  have e : ∀ t : Fin cfg0.N, win0_3.index t (0 : Fin 2) = t.val ∧ win0_3.index t (1 : Fin 2) = 0 := (by decide +kernel : ∀ t : Fin grid0.N, _)
  unfold iblk
  rw [View.read_apply]
  refine (congrFun (V_main_arg2 m c) _).trans ?_
  show argGates m c _ = argGates m c _
  congr 1
  funext a
  apply Fin.ext
  match a with
  | ⟨0, _⟩ => show win0_3.index (pointOf n) 0 * 512 + 1 * (n.val % 512) = n.val; rw [(e (pointOf n)).1]; show n.val / 512 * 512 + _ = _; omega
  | ⟨1, _⟩ => show win0_3.index (pointOf n) 1 * 128 + 1 * l.val = l.val; rw [(e (pointOf n)).2]; omega

theorem read_norm (t : Fin cfg0.N) (y : Fin 1024) : (iblk m c 4 t : Vec Ideal S1x1024 .f32) (ix2 0 y) = argNorm m c (ix1 y) := by
  have e : ∀ t : Fin cfg0.N, win0_4.index t (0 : Fin 2) = 0 ∧ win0_4.index t (1 : Fin 2) = 0 := (by decide +kernel : ∀ t : Fin grid0.N, _)
  refine Eq.trans ?_ (host_norm m c y)
  unfold iblk
  rw [View.read_apply]
  show V m c main_v19 _ = V m c main_v19 _
  congr 1
  funext a
  apply Fin.ext
  match a with
  | ⟨0, _⟩ => show win0_4.index t 0 * 1 + 1 * 0 = 0; rw [(e t).1]
  | ⟨1, _⟩ => show win0_4.index t 1 * 1024 + 1 * y.val = y.val; rw [(e t).2]; omega

theorem read_cosines (t : Fin cfg0.N) (j k : Fin 256) : (iblk m c 5 t : Vec Ideal S256x256 .bf16) (ix2 j k) = cosines (ix2 j k) := by
  have e : ∀ t : Fin cfg0.N, win0_5.index t (0 : Fin 2) = 0 ∧ win0_5.index t (1 : Fin 2) = 0 := (by decide +kernel : ∀ t : Fin grid0.N, _)
  refine Eq.trans ?_ (congrFun (host_cosines m c) (ix2 j k))
  unfold iblk
  rw [View.read_apply]
  show V m c main_v17 _ = V m c main_v17 _
  congr 1
  funext a
  apply Fin.ext
  match a with
  | ⟨0, _⟩ => show win0_5.index t 0 * 256 + 1 * j.val = j.val; rw [(e t).1]; omega
  | ⟨1, _⟩ => show win0_5.index t 1 * 256 + 1 * k.val = k.val; rw [(e t).2]; omega

theorem read_sines (t : Fin cfg0.N) (j k : Fin 256) : (iblk m c 6 t : Vec Ideal S256x256 .bf16) (ix2 j k) = sines (ix2 j k) := by
  have e : ∀ t : Fin cfg0.N, win0_6.index t (0 : Fin 2) = 0 ∧ win0_6.index t (1 : Fin 2) = 0 := (by decide +kernel : ∀ t : Fin grid0.N, _)
  refine Eq.trans ?_ (congrFun (host_sines m c) (ix2 j k))
  unfold iblk
  rw [View.read_apply]
  show V m c main_v18 _ = V m c main_v18 _
  congr 1
  funext a
  apply Fin.ext
  match a with
  | ⟨0, _⟩ => show win0_6.index t 0 * 256 + 1 * j.val = j.val; rw [(e t).1]; omega
  | ⟨1, _⟩ => show win0_6.index t 1 * 256 + 1 * k.val = k.val; rw [(e t).2]; omega

/-! ## The arrays -/

/-- A combined row of the block is the reference's. -/
theorem combined_eq (n : Fin 32768) (d : Fin 1024) :
    combined (iblk m c 0 (pointOf n)) (iblk m c 1 (pointOf n)) (iblk m c 2 (pointOf n)) (iblk m c 3 (pointOf n)) ⟨n.val % 512, by omega⟩ d = sums m c (ix2 n d) := by
  have f := read_first m c n ⟨d.val / 128, by omega⟩ ⟨d.val % 128, by omega⟩
  have s := read_second m c n ⟨d.val / 128, by omega⟩ ⟨d.val % 128, by omega⟩
  refine Eq.trans ?_ (total_at (argRows m c) (argTiles m c) (argGates m c) n d).symm
  unfold combined
  refine congr (congrArg HAdd.hAdd (congr (congrArg HAdd.hAdd (read_rows m c n d)) (congr (congrArg HMul.hMul (read_gates m c n 0)) f)))
    (congr (congrArg HMul.hMul (read_gates m c n 1)) s)

/-- A transformed row of the block is the reference's, for the table the block holds. -/
theorem transformed_eq (b : Vec Ideal S256x256 .bf16) (t : FVec Ideal S256x256 .f32) (hb : ∀ j k, b (ix2 j k) = t (ix2 j k)) (n : Fin 32768) (d : Fin 1024) :
    transformed (iblk m c 0 (pointOf n)) (iblk m c 1 (pointOf n)) (iblk m c 2 (pointOf n)) (iblk m c 3 (pointOf n)) (iblk m c 4 (pointOf n)) b ⟨n.val % 512, by omega⟩ d
      = Cert.Reference6Ideal.Channels.transformed (normedRows (sums m c) (argNorm m c)) t (ix2 n d) := by
  refine Eq.trans ?_ (Cert.Reference6Ideal.Channels.transformed_at _ t n d).symm
  unfold transformed
  refine Finset.sum_congr rfl fun j _ => congr (congrArg HMul.hMul ?_) (hb _ _)
  refine Eq.trans ?_ (normedRows_at (sums m c) (argNorm m c) n _).symm
  rw [funext (combined_eq m c n), funext (read_norm m c (pointOf n))]

theorem array_rows : sums m c = (dats m 0 c).arrAt 7 cfg0.N := by
  have e : ∀ t : Fin cfg0.N, win0_7.index t (0 : Fin 2) = t.val ∧ win0_7.index t (1 : Fin 2) = 0 := (by decide +kernel : ∀ t : Fin grid0.N, _)
  funext z
  obtain ⟨n, d, rfl⟩ : ∃ n d, z = ix2 n d := ⟨z 0, z 1, eq_ix2 z⟩
  have h := congrFun (blocks7 m c (pointOf n) (flush0_7 _)) (ix2 ⟨n.val % 512, by omega⟩ d)
  rw [View.read_apply, flushed7] at h
  have i : ((cfg0.win 7).blk (pointOf n)).view.emb (ix2 (⟨n.val % 512, by omega⟩ : Fin 512) d) = (ix2 n d : S32768x1024.Idx) := by
    funext a
    apply Fin.ext
    match a with
    | ⟨0, _⟩ => show win0_7.index (pointOf n) 0 * 512 + 1 * (n.val % 512) = n.val; rw [(e _).1]; show n.val / 512 * 512 + _ = _; omega
    | ⟨1, _⟩ => show win0_7.index (pointOf n) 1 * 1024 + 1 * d.val = d.val; rw [(e _).2]; omega
  rw [i] at h
  exact ((block_rows m c (pointOf n) _ d).trans (combined_eq m c n d)).symm.trans h.symm

theorem array_cosines : Cert.Reference6Ideal.Channels.transformed (normedRows (sums m c) (argNorm m c)) cosines = (dats m 0 c).arrAt 8 cfg0.N := by
  have e : ∀ t : Fin cfg0.N, win0_8.index t (0 : Fin 2) = t.val ∧ win0_8.index t (1 : Fin 2) = 0 := (by decide +kernel : ∀ t : Fin grid0.N, _)
  funext z
  obtain ⟨n, d, rfl⟩ : ∃ n d, z = ix2 n d := ⟨z 0, z 1, eq_ix2 z⟩
  have h := congrFun (blocks8 m c (pointOf n) (flush0_8 _)) (ix2 ⟨n.val % 512, by omega⟩ d)
  rw [View.read_apply, flushed8] at h
  have i : ((cfg0.win 8).blk (pointOf n)).view.emb (ix2 (⟨n.val % 512, by omega⟩ : Fin 512) d) = (ix2 n d : S32768x1024.Idx) := by
    funext a
    apply Fin.ext
    match a with
    | ⟨0, _⟩ => show win0_8.index (pointOf n) 0 * 512 + 1 * (n.val % 512) = n.val; rw [(e _).1]; show n.val / 512 * 512 + _ = _; omega
    | ⟨1, _⟩ => show win0_8.index (pointOf n) 1 * 1024 + 1 * d.val = d.val; rw [(e _).2]; omega
  rw [i] at h
  exact ((block_cosines m c (pointOf n) _ d).trans (transformed_eq m c _ cosines (read_cosines m c _) n d)).symm.trans h.symm

theorem array_sines : Cert.Reference6Ideal.Channels.transformed (normedRows (sums m c) (argNorm m c)) sines = (dats m 0 c).arrAt 9 cfg0.N := by
  have e : ∀ t : Fin cfg0.N, win0_9.index t (0 : Fin 2) = t.val ∧ win0_9.index t (1 : Fin 2) = 0 := (by decide +kernel : ∀ t : Fin grid0.N, _)
  funext z
  obtain ⟨n, d, rfl⟩ : ∃ n d, z = ix2 n d := ⟨z 0, z 1, eq_ix2 z⟩
  have h := congrFun (blocks9 m c (pointOf n) (flush0_9 _)) (ix2 ⟨n.val % 512, by omega⟩ d)
  rw [View.read_apply, flushed9] at h
  have i : ((cfg0.win 9).blk (pointOf n)).view.emb (ix2 (⟨n.val % 512, by omega⟩ : Fin 512) d) = (ix2 n d : S32768x1024.Idx) := by
    funext a
    apply Fin.ext
    match a with
    | ⟨0, _⟩ => show win0_9.index (pointOf n) 0 * 512 + 1 * (n.val % 512) = n.val; rw [(e _).1]; show n.val / 512 * 512 + _ = _; omega
    | ⟨1, _⟩ => show win0_9.index (pointOf n) 1 * 1024 + 1 * d.val = d.val; rw [(e _).2]; omega
  rw [i] at h
  exact ((block_sines m c (pointOf n) _ d).trans (transformed_eq m c _ sines (read_sines m c _) n d)).symm.trans h.symm

end Cert.Kernel6Ideal.Channels

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5Ideal
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Attention.Equation
public import proofs.«01_k».proof.Proof.Attention.Finite
public import proofs.«01_k».proof.Proof.Projection.Equation
public import proofs.«01_k».proof.Proof.Combine.Equation
public import proofs.«01_k».proof.Proof.Output.Equation
public import proofs.«01_k».proof.Proof.Output.Machine
public import proofs.«01_k».proof.Proof.Mapped.Equation
public import proofs.«01_k».proof.Proof.Mapped.Machine
public import proofs.«01_k».proof.Proof.Channels.Equation
public import Idealize.ShloMosaic.Adequacy
public import Idealize.ShloMosaic.Init

@[expose] public section

noncomputable section

namespace Cert.Proof

open Idealize.ShloMosaic Idealize.SL.Sem Cert.Kernel

/-- The kernel over the reals computes the reference, where every query and every key is a real number. -/
theorem value : Cert.algebraic_KernelIdeal_ReferenceIdeal_pre_finite := by
  intro m ρ m' ρ' hpre hargs
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨a0, a1, a2, a3, a4, a5, a6, a7⟩ := hargs c
  obtain ⟨hq, hk⟩ := Cert.Pre_finite.Attention.reals _ _ _ _ _ _ _ _ (hpre c)
  choose q hq using hq
  choose k hk using hk
  rw [(h c).1, Cert.ReferenceIdeal.Attention.result_stages, a0, a1, a2, a3, a4, a5, a6, a7]
  exact (Cert.KernelIdeal.Attention.array_eq m c q k hq hk).symm

/-- The reference runs and leaves its arguments; it declares no semaphore. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The named constant is the one its table holds. -/
theorem constant_named : Cert.preserves_Kernel_KernelIdeal :=
  IdealRules.named_const.statement Cert.KernelIdeal.κ "log2e" .f32 0x3FB8AA3B#32 (((Real.log 2)⁻¹ : ℝ) : EReal) rfl

/-- The input projection over the reals computes its reference's seven results. -/
theorem projection_value : Cert.algebraic_Kernel2Ideal_Reference2Ideal := by
  intro m ρ m' ρ' _ hargs
  refine ⟨_, _, _, _, _, _, _, Cert.Kernel2Ideal.Value.run_blocks (F := Ideal) m ρ, ?_⟩
  refine (θ_run Cert.Reference2Ideal.defs _ _).mono (fun _ h c => ?_) (Cert.Reference2Ideal.Value.run (F := Ideal) m' ρ')
  obtain ⟨a0, a1, a2, a3, a4⟩ := hargs c
  obtain ⟨h0, h1, h2, h3, h4, h5, h6, hrest⟩ := h c
  rw [a0, a1, a2] at h2 h3 h4 h5 h6
  rw [a0, a1, a2, a3] at h0
  rw [a0, a1, a2, a4] at h1
  exact ⟨h0.trans (Cert.Kernel2Ideal.Projection.queries_eq m c), h1.trans (Cert.Kernel2Ideal.Projection.keys_eq m c),
    h2.trans (Cert.Kernel2Ideal.Projection.values_eq m c), h3.trans (Cert.Kernel2Ideal.Projection.gate_eq m c),
    h4.trans (Cert.Kernel2Ideal.Projection.convolved_eq m c), h5.trans (Cert.Kernel2Ideal.Projection.steps_eq m c),
    h6.trans (Cert.Kernel2Ideal.Projection.stepsTurned_eq m c), hrest⟩

/-- The projection's reference runs and leaves its arguments; it declares no semaphore. -/
theorem projection_reference_frame : Cert.quiescent_Reference2Ideal := fun m ρ _ =>
  (θ_run Cert.Reference2Ideal.defs _ _).mono (fun r h => ⟨fun c => (h c).2.2.2.2.2.2.2, sem_eq_zero_of_no_sems (by decide) r.2⟩)
    (Cert.Reference2Ideal.Value.run (F := Ideal) m ρ)

/-- The projection's named constant is the one its table holds. -/
theorem projection_constant_named : Cert.preserves_Kernel2_Kernel2Ideal :=
  IdealRules.named_const.statement Cert.Kernel2Ideal.κ "qscale" .f32 0x3E38AA3B#32 (((Real.log 256)⁻¹ : ℝ) : EReal) rfl

/-- The final combination over the reals computes its reference. -/
theorem combine_value : Cert.algebraic_Kernel3Ideal_Reference3Ideal := by
  intro m ρ m' ρ' _ hargs
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨a0, a1, a2⟩ := hargs c
  obtain ⟨h0, hrest⟩ := h c
  rw [a0, a1, a2] at h0
  exact ⟨h0.trans (Cert.Kernel3Ideal.Combine.array_eq m c), hrest⟩

/-- The combination's reference runs and leaves its arguments; it declares no semaphore. -/
theorem combine_reference_frame : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection over the reals runs and leaves its arguments. -/
theorem output_frame : Cert.quiescent_Kernel4Ideal := fun m ρ _ => Cert.Output.arguments_kept (F := Ideal) m ρ

/-- The output projection over the reals computes its reference's rows and their norms. -/
theorem output_value : Cert.algebraic_Kernel4Ideal_Reference4Ideal := by
  intro m ρ m' ρ' _ hargs
  refine ⟨_, _, (θ_run Cert.Kernel4Ideal.defs _ _).mono (fun _ h c => ⟨(h.1 c).1.1, (h.1 c).1.2, (h.1 c).2⟩) (Cert.Output.outcome (F := Ideal) m ρ), ?_⟩
  refine (θ_run Cert.Reference4Ideal.defs _ _).mono (fun _ h c => ?_) (Cert.Reference4Ideal.Value.run (F := Ideal) m' ρ')
  obtain ⟨a0, a1, a2, a3, a4, -⟩ := hargs c
  obtain ⟨h0, h1, hrest⟩ := h c
  rw [a0, a1, a2, a3] at h0
  rw [a0, a1, a2, a3, a4] at h1
  exact ⟨h0.trans (Cert.Output.rows_eq m c), h1.trans (Cert.Output.tiles_eq m c), hrest⟩

/-- The output projection's reference runs and leaves its arguments; it declares no semaphore. -/
theorem output_reference_frame : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The second layer's output projection over the reals runs and leaves its arguments. -/
theorem mapped_frame : Cert.quiescent_Kernel5Ideal := fun m ρ _ => Cert.Mapped.arguments_kept (F := Ideal) m ρ

/-- The second layer's output projection over the reals computes its reference's rows and their norms. -/
theorem mapped_value : Cert.algebraic_Kernel5Ideal_Reference5Ideal := by
  intro m ρ m' ρ' _ hargs
  refine ⟨_, _, (θ_run Cert.Kernel5Ideal.defs _ _).mono (fun _ h c => ⟨(h.1 c).1.1, (h.1 c).1.2, (h.1 c).2⟩) (Cert.Mapped.outcome (F := Ideal) m ρ), ?_⟩
  refine (θ_run Cert.Reference5Ideal.defs _ _).mono (fun _ h c => ?_) (Cert.Reference5Ideal.Value.run (F := Ideal) m' ρ')
  obtain ⟨a0, a1, a2, a3, -⟩ := hargs c
  obtain ⟨h0, h1, hrest⟩ := h c
  rw [a0, a1, a2] at h0
  rw [a0, a1, a2, a3] at h1
  exact ⟨h0.trans (Cert.Mapped.rows_eq m c), h1.trans (Cert.Mapped.tiles_eq m c), hrest⟩

/-- The second layer's output projection's reference runs and leaves its arguments; it declares no semaphore. -/
theorem mapped_reference_frame : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The combination with the transform over channels computes, over the reals, its reference's rows and the two halves of their transform. -/
theorem channels_value : Cert.algebraic_Kernel6Ideal_Reference6Ideal := by
  intro m ρ m' ρ' _ hargs
  refine ⟨_, _, _, Cert.Kernel6Ideal.Value.run_blocks (F := Ideal) m ρ, ?_⟩
  refine (θ_run Cert.Reference6Ideal.defs _ _).mono (fun _ h c => ?_) (Cert.Reference6Ideal.Value.run (F := Ideal) m' ρ')
  obtain ⟨a0, a1, a2, a3⟩ := hargs c
  obtain ⟨h0, h1, h2, hrest⟩ := h c
  rw [a0, a1, a2] at h0
  unfold Cert.Reference6Ideal.Value.res_main_v47 at h1
  unfold Cert.Reference6Ideal.Value.res_main_v49 at h2
  rw [a0, a1, a2, a3] at h1 h2
  exact ⟨h0.trans (Cert.Kernel6Ideal.Channels.array_rows m c), h1.trans (Cert.Kernel6Ideal.Channels.array_cosines m c),
    h2.trans (Cert.Kernel6Ideal.Channels.array_sines m c), hrest⟩

/-- Its reference runs and leaves its arguments; it declares no semaphore. -/
theorem channels_reference_frame : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Kernel4.Gen.facts,
    Cert.Kernel4Ideal.Gen.facts, Cert.Reference4Ideal.Gen.facts, Cert.Kernel5.Gen.facts,
    Cert.Kernel5Ideal.Gen.facts, Cert.Reference5Ideal.Gen.facts,
    Cert.Kernel6.Gen.facts, Cert.Kernel6Ideal.Gen.facts, Cert.Reference6Ideal.Gen.facts, Cert.Pre_finite.Gen.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    fun m ρ _ => Cert.Kernel2.Gen.frame m ρ, fun m ρ _ => Cert.Kernel2Ideal.Gen.frame m ρ, projection_reference_frame,
    fun m ρ _ => Cert.Kernel3.Gen.frame m ρ, fun m ρ _ => Cert.Kernel3Ideal.Gen.frame m ρ, combine_reference_frame,
    Cert.Output.machine_frame, output_frame, output_reference_frame,
    Cert.Mapped.machine_frame, mapped_frame, mapped_reference_frame,
    fun m ρ _ => Cert.Kernel6.Gen.frame m ρ, fun m ρ _ => Cert.Kernel6Ideal.Gen.frame m ρ, channels_reference_frame,
    constant_named, value, projection_constant_named, projection_value, trivial, combine_value,
    trivial, output_value, trivial, mapped_value, trivial, channels_value⟩

end Cert.Proof

end
